-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x8256 : Shape := ⟨2, ![1024, 8256]⟩
abbrev S1024x16384 : Shape := ⟨2, ![1024, 16384]⟩
abbrev S8256 : Shape := ⟨1, ![8256]⟩
abbrev S16384 : Shape := ⟨1, ![16384]⟩
abbrev S16 : Shape := ⟨1, ![16]⟩
abbrev S_ : Shape := ⟨0, ![]⟩
abbrev S1x8256 : Shape := ⟨2, ![1, 8256]⟩
abbrev S1x16384 : Shape := ⟨2, ![1, 16384]⟩
abbrev S1024x128x128 : Shape := ⟨3, ![1024, 128, 128]⟩

abbrev nBuf : Table → Nat
  | .hbm => 3
  | .local .scVector .vmem => 2
  | _ => 0

abbrev bufTy : (tb : Table) → Fin (nBuf tb) → BufTy
  | .hbm, ⟨0, _⟩ => ⟨S1024x8256, .f32⟩
  | .hbm, ⟨1, _⟩ => ⟨S1024x16384, .f32⟩
  | .hbm, ⟨2, _⟩ => ⟨S1024x128x128, .f32⟩
  | .local .scVector .vmem, ⟨0, _⟩ => ⟨S8256, .f32⟩
  | .local .scVector .vmem, ⟨1, _⟩ => ⟨S16384, .f32⟩
  | _, _ => ⟨S1024x8256, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c1024_i32 : BitVec 32 := 1024#32
  let v4 : BitVec 32 := Scalar.addi c0_i32_0 c1024_i32
  let c1_i32 : BitVec 32 := 1#32
  ⟨c0_i32_0, v4, c1_i32⟩
def k0_off1 (k0_t1 : Fin k0_t1_loop.trips) : Fin 1 → Nat :=
  let c0_i32_0 : BitVec 32 := 0#32
  let c1_i32 : BitVec 32 := 1#32
  let arg6 : BitVec 32 := Scf.iv c0_i32_0 c1_i32 k0_t1
  let c16_i32 : BitVec 32 := 16#32
  let v8 : BitVec 32 := Scalar.muli arg6 c16_i32
  let v9 : Index := Scalar.indexCast v8
  ![v9.toNat]
@[reducible] def k0_t2_loop : Scf.Loop 32 :=
  let c0_i32_3 : BitVec 32 := 0#32
  let c32_i32 : BitVec 32 := 32#32
  let v6 : BitVec 32 := Scalar.addi c0_i32_3 c32_i32
  let c1_i32_4 : BitVec 32 := 1#32
  ⟨c0_i32_3, v6, c1_i32_4⟩
def k0_off2 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_6 : BitVec 32 := 32#32
  let v8 : BitVec 32 := Scalar.muli v1 c32_i32_6
  let c0_i32_3 : BitVec 32 := 0#32
  let c1_i32_4 : BitVec 32 := 1#32
  let arg6 : BitVec 32 := Scf.iv c0_i32_3 c1_i32_4 k0_t2
  let v9 : BitVec 32 := Scalar.addi v8 arg6
  let c0_i32_34_r0 : BitVec 32 := 0#32
  ![v9.toNat, 0]
@[reducible] def k0_t3_loop : Scf.Loop 32 :=
  let c0_i32_8 : BitVec 32 := 0#32
  let c128_i32 : BitVec 32 := 128#32
  let v10 : BitVec 32 := Scalar.addi c0_i32_8 c128_i32
  let c1_i32_9 : BitVec 32 := 1#32
  ⟨c0_i32_8, v10, c1_i32_9⟩
def k0_off3 (arg9 : BitVec 32) : Fin 1 → Nat :=
  let c0_i32_34 : BitVec 32 := 0#32
  let v26 : BitVec 32 := Scalar.addi arg9 c0_i32_34
  let v27 : Index := Scalar.indexCast v26
  ![v27.toNat]

def k0_chk1 (arg9 : BitVec 32) : Prop :=
  (∀ a, (k0_off3 arg9) a + S16.size a ≤ S8256.size a)
theorem k0_off3_inb : ∀ (arg9 : BitVec 32) (k0_hw1 : k0_chk1 arg9), ∀ a, (k0_off3 arg9) a + S16.size a ≤ S8256.size a := fun arg9 k0_hw1 => k0_hw1

def k0_off4 (k0_t3 : Fin k0_t3_loop.trips) : Fin 1 → Nat :=
  let c128_i32_38 : BitVec 32 := 128#32
  let c0_i32_8 : BitVec 32 := 0#32
  let c1_i32_9 : BitVec 32 := 1#32
  let arg8 : BitVec 32 := Scf.iv c0_i32_8 c1_i32_9 k0_t3
  let v41 : BitVec 32 := Scalar.muli c128_i32_38 arg8
  let c0_i32_39 : BitVec 32 := 0#32
  let v42 : BitVec 32 := Scalar.addi v41 c0_i32_39
  let v43 : Index := Scalar.indexCast v42
  ![v43.toNat]
@[reducible] def k0_t4_loop : Scf.Loop 32 :=
  let c16_i32 : BitVec 32 := 16#32
  let c112_i32 : BitVec 32 := 112#32
  let v12 : BitVec 32 := Scalar.addi c16_i32 c112_i32
  let c1_i32_11 : BitVec 32 := 1#32
  ⟨c16_i32, v12, c1_i32_11⟩
def k0_off5 (arg9 : BitVec 32) : Fin 1 → Nat :=
  let c16_i32_34 : BitVec 32 := 16#32
  let v26 : BitVec 32 := Scalar.addi arg9 c16_i32_34
  let v27 : Index := Scalar.indexCast v26
  ![v27.toNat]

def k0_chk2 (arg9 : BitVec 32) : Prop :=
  (∀ a, (k0_off5 arg9) a + S16.size a ≤ S8256.size a)
theorem k0_off5_inb : ∀ (arg9 : BitVec 32) (k0_hw2 : k0_chk2 arg9), ∀ a, (k0_off5 arg9) a + S16.size a ≤ S8256.size a := fun arg9 k0_hw2 => k0_hw2

def k0_off6 (k0_t4 : Fin k0_t4_loop.trips) : Fin 1 → Nat :=
  let c128_i32_38 : BitVec 32 := 128#32
  let c16_i32 : BitVec 32 := 16#32
  let c1_i32_11 : BitVec 32 := 1#32
  let arg8 : BitVec 32 := Scf.iv c16_i32 c1_i32_11 k0_t4
  let v41 : BitVec 32 := Scalar.muli c128_i32_38 arg8
  let c16_i32_39 : BitVec 32 := 16#32
  let v42 : BitVec 32 := Scalar.addi v41 c16_i32_39
  let v43 : Index := Scalar.indexCast v42
  ![v43.toNat]
@[reducible] def k0_t5_loop : Scf.Loop 32 :=
  let c32_i32_13 : BitVec 32 := 32#32
  let c96_i32 : BitVec 32 := 96#32
  let v14 : BitVec 32 := Scalar.addi c32_i32_13 c96_i32
  let c1_i32_14 : BitVec 32 := 1#32
  ⟨c32_i32_13, v14, c1_i32_14⟩
def k0_off7 (arg9 : BitVec 32) : Fin 1 → Nat :=
  let c32_i32_34 : BitVec 32 := 32#32
  let v26 : BitVec 32 := Scalar.addi arg9 c32_i32_34
  let v27 : Index := Scalar.indexCast v26
  ![v27.toNat]

def k0_chk3 (arg9 : BitVec 32) : Prop :=
  (∀ a, (k0_off7 arg9) a + S16.size a ≤ S8256.size a)
theorem k0_off7_inb : ∀ (arg9 : BitVec 32) (k0_hw3 : k0_chk3 arg9), ∀ a, (k0_off7 arg9) a + S16.size a ≤ S8256.size a := fun arg9 k0_hw3 => k0_hw3

def k0_off8 (k0_t5 : Fin k0_t5_loop.trips) : Fin 1 → Nat :=
  let c128_i32_38 : BitVec 32 := 128#32
  let c32_i32_13 : BitVec 32 := 32#32
  let c1_i32_14 : BitVec 32 := 1#32
  let arg8 : BitVec 32 := Scf.iv c32_i32_13 c1_i32_14 k0_t5
  let v41 : BitVec 32 := Scalar.muli c128_i32_38 arg8
  let c32_i32_39 : BitVec 32 := 32#32
  let v42 : BitVec 32 := Scalar.addi v41 c32_i32_39
  let v43 : Index := Scalar.indexCast v42
  ![v43.toNat]
@[reducible] def k0_t6_loop : Scf.Loop 32 :=
  let c48_i32 : BitVec 32 := 48#32
  let c80_i32 : BitVec 32 := 80#32
  let v16 : BitVec 32 := Scalar.addi c48_i32 c80_i32
  let c1_i32_16 : BitVec 32 := 1#32
  ⟨c48_i32, v16, c1_i32_16⟩
def k0_off9 (arg9 : BitVec 32) : Fin 1 → Nat :=
  let c48_i32_34 : BitVec 32 := 48#32
  let v26 : BitVec 32 := Scalar.addi arg9 c48_i32_34
  let v27 : Index := Scalar.indexCast v26
  ![v27.toNat]

def k0_chk4 (arg9 : BitVec 32) : Prop :=
  (∀ a, (k0_off9 arg9) a + S16.size a ≤ S8256.size a)
theorem k0_off9_inb : ∀ (arg9 : BitVec 32) (k0_hw4 : k0_chk4 arg9), ∀ a, (k0_off9 arg9) a + S16.size a ≤ S8256.size a := fun arg9 k0_hw4 => k0_hw4

def k0_off10 (k0_t6 : Fin k0_t6_loop.trips) : Fin 1 → Nat :=
  let c128_i32_38 : BitVec 32 := 128#32
  let c48_i32 : BitVec 32 := 48#32
  let c1_i32_16 : BitVec 32 := 1#32
  let arg8 : BitVec 32 := Scf.iv c48_i32 c1_i32_16 k0_t6
  let v41 : BitVec 32 := Scalar.muli c128_i32_38 arg8
  let c48_i32_39 : BitVec 32 := 48#32
  let v42 : BitVec 32 := Scalar.addi v41 c48_i32_39
  let v43 : Index := Scalar.indexCast v42
  ![v43.toNat]
@[reducible] def k0_t7_loop : Scf.Loop 32 :=
  let c64_i32 : BitVec 32 := 64#32
  let c64_i32_18 : BitVec 32 := 64#32
  let v18 : BitVec 32 := Scalar.addi c64_i32 c64_i32_18
  let c1_i32_19 : BitVec 32 := 1#32
  ⟨c64_i32, v18, c1_i32_19⟩
def k0_off11 (arg9 : BitVec 32) : Fin 1 → Nat :=
  let c64_i32_34 : BitVec 32 := 64#32
  let v26 : BitVec 32 := Scalar.addi arg9 c64_i32_34
  let v27 : Index := Scalar.indexCast v26
  ![v27.toNat]

def k0_chk5 (arg9 : BitVec 32) : Prop :=
  (∀ a, (k0_off11 arg9) a + S16.size a ≤ S8256.size a)
theorem k0_off11_inb : ∀ (arg9 : BitVec 32) (k0_hw5 : k0_chk5 arg9), ∀ a, (k0_off11 arg9) a + S16.size a ≤ S8256.size a := fun arg9 k0_hw5 => k0_hw5

def k0_off12 (k0_t7 : Fin k0_t7_loop.trips) : Fin 1 → Nat :=
  let c128_i32_38 : BitVec 32 := 128#32
  let c64_i32 : BitVec 32 := 64#32
  let c1_i32_19 : BitVec 32 := 1#32
  let arg8 : BitVec 32 := Scf.iv c64_i32 c1_i32_19 k0_t7
  let v41 : BitVec 32 := Scalar.muli c128_i32_38 arg8
  let c64_i32_39 : BitVec 32 := 64#32
  let v42 : BitVec 32 := Scalar.addi v41 c64_i32_39
  let v43 : Index := Scalar.indexCast v42
  ![v43.toNat]
@[reducible] def k0_t8_loop : Scf.Loop 32 :=
  let c80_i32_21 : BitVec 32 := 80#32
  let c48_i32_22 : BitVec 32 := 48#32
  let v20 : BitVec 32 := Scalar.addi c80_i32_21 c48_i32_22
  let c1_i32_23 : BitVec 32 := 1#32
  ⟨c80_i32_21, v20, c1_i32_23⟩
def k0_off13 (arg9 : BitVec 32) : Fin 1 → Nat :=
  let c80_i32_34 : BitVec 32 := 80#32
  let v26 : BitVec 32 := Scalar.addi arg9 c80_i32_34
  let v27 : Index := Scalar.indexCast v26
  ![v27.toNat]

def k0_chk6 (arg9 : BitVec 32) : Prop :=
  (∀ a, (k0_off13 arg9) a + S16.size a ≤ S8256.size a)
theorem k0_off13_inb : ∀ (arg9 : BitVec 32) (k0_hw6 : k0_chk6 arg9), ∀ a, (k0_off13 arg9) a + S16.size a ≤ S8256.size a := fun arg9 k0_hw6 => k0_hw6

def k0_off14 (k0_t8 : Fin k0_t8_loop.trips) : Fin 1 → Nat :=
  let c128_i32_38 : BitVec 32 := 128#32
  let c80_i32_21 : BitVec 32 := 80#32
  let c1_i32_23 : BitVec 32 := 1#32
  let arg8 : BitVec 32 := Scf.iv c80_i32_21 c1_i32_23 k0_t8
  let v41 : BitVec 32 := Scalar.muli c128_i32_38 arg8
  let c80_i32_39 : BitVec 32 := 80#32
  let v42 : BitVec 32 := Scalar.addi v41 c80_i32_39
  let v43 : Index := Scalar.indexCast v42
  ![v43.toNat]
@[reducible] def k0_t9_loop : Scf.Loop 32 :=
  let c96_i32_25 : BitVec 32 := 96#32
  let c32_i32_26 : BitVec 32 := 32#32
  let v22 : BitVec 32 := Scalar.addi c96_i32_25 c32_i32_26
  let c1_i32_27 : BitVec 32 := 1#32
  ⟨c96_i32_25, v22, c1_i32_27⟩
def k0_off15 (arg9 : BitVec 32) : Fin 1 → Nat :=
  let c96_i32_34 : BitVec 32 := 96#32
  let v26 : BitVec 32 := Scalar.addi arg9 c96_i32_34
  let v27 : Index := Scalar.indexCast v26
  ![v27.toNat]

def k0_chk7 (arg9 : BitVec 32) : Prop :=
  (∀ a, (k0_off15 arg9) a + S16.size a ≤ S8256.size a)
theorem k0_off15_inb : ∀ (arg9 : BitVec 32) (k0_hw7 : k0_chk7 arg9), ∀ a, (k0_off15 arg9) a + S16.size a ≤ S8256.size a := fun arg9 k0_hw7 => k0_hw7

def k0_off16 (k0_t9 : Fin k0_t9_loop.trips) : Fin 1 → Nat :=
  let c128_i32_38 : BitVec 32 := 128#32
  let c96_i32_25 : BitVec 32 := 96#32
  let c1_i32_27 : BitVec 32 := 1#32
  let arg8 : BitVec 32 := Scf.iv c96_i32_25 c1_i32_27 k0_t9
  let v41 : BitVec 32 := Scalar.muli c128_i32_38 arg8
  let c96_i32_39 : BitVec 32 := 96#32
  let v42 : BitVec 32 := Scalar.addi v41 c96_i32_39
  let v43 : Index := Scalar.indexCast v42
  ![v43.toNat]
@[reducible] def k0_t10_loop : Scf.Loop 32 :=
  let c112_i32_29 : BitVec 32 := 112#32
  let c16_i32_30 : BitVec 32 := 16#32
  let v24 : BitVec 32 := Scalar.addi c112_i32_29 c16_i32_30
  let c1_i32_31 : BitVec 32 := 1#32
  ⟨c112_i32_29, v24, c1_i32_31⟩
def k0_off17 (arg9 : BitVec 32) : Fin 1 → Nat :=
  let c112_i32_34 : BitVec 32 := 112#32
  let v26 : BitVec 32 := Scalar.addi arg9 c112_i32_34
  let v27 : Index := Scalar.indexCast v26
  ![v27.toNat]

def k0_chk8 (arg9 : BitVec 32) : Prop :=
  (∀ a, (k0_off17 arg9) a + S16.size a ≤ S8256.size a)
theorem k0_off17_inb : ∀ (arg9 : BitVec 32) (k0_hw8 : k0_chk8 arg9), ∀ a, (k0_off17 arg9) a + S16.size a ≤ S8256.size a := fun arg9 k0_hw8 => k0_hw8

def k0_off18 (k0_t10 : Fin k0_t10_loop.trips) : Fin 1 → Nat :=
  let c128_i32_38 : BitVec 32 := 128#32
  let c112_i32_29 : BitVec 32 := 112#32
  let c1_i32_31 : BitVec 32 := 1#32
  let arg8 : BitVec 32 := Scf.iv c112_i32_29 c1_i32_31 k0_t10
  let v41 : BitVec 32 := Scalar.muli c128_i32_38 arg8
  let c112_i32_39 : BitVec 32 := 112#32
  let v42 : BitVec 32 := Scalar.addi v41 c112_i32_39
  let v43 : Index := Scalar.indexCast v42
  ![v43.toNat]
def k0_off19 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_6 : BitVec 32 := 32#32
  let v8 : BitVec 32 := Scalar.muli v1 c32_i32_6
  let c0_i32_3 : BitVec 32 := 0#32
  let c1_i32_4 : BitVec 32 := 1#32
  let arg6 : BitVec 32 := Scf.iv c0_i32_3 c1_i32_4 k0_t2
  let v9 : BitVec 32 := Scalar.addi v8 arg6
  let c0_i32_34_r1 : BitVec 32 := 0#32
  ![v9.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x8256 : Shape := ⟨2, ![1024, 8256]⟩
abbrev S8256 : Shape := ⟨1, ![8256]⟩
abbrev S128 : Shape := ⟨1, ![128]⟩
abbrev S8128 : Shape := ⟨1, ![8128]⟩
abbrev S_ : Shape := ⟨0, ![]⟩
abbrev S1024x128x128 : Shape := ⟨3, ![1024, 128, 128]⟩
abbrev S8256x1 : Shape := ⟨2, ![8256, 1]⟩
abbrev S8256x2 : Shape := ⟨2, ![8256, 2]⟩
abbrev S128x128 : Shape := ⟨2, ![128, 128]⟩
abbrev S128x1 : Shape := ⟨2, ![128, 1]⟩
abbrev S128x2 : Shape := ⟨2, ![128, 2]⟩
abbrev S1024x128 : Shape := ⟨2, ![1024, 128]⟩
abbrev S1x128x128 : Shape := ⟨3, ![1, 128, 128]⟩
abbrev S8128x1 : Shape := ⟨2, ![8128, 1]⟩
abbrev S8128x2 : Shape := ⟨2, ![8128, 2]⟩
abbrev S1024x8128 : Shape := ⟨2, ![1024, 8128]⟩

abbrev nBuf : Space → Nat
  | .hbm => 99
  | .vmem => 0
  | .smem => 0
  | _ => 0

abbrev bufTy : (tb : Table) → Fin (tcTables nBuf tb) → BufTy
  | .hbm, ⟨0, _⟩ => ⟨S1024x8256, .f32⟩
  | .hbm, ⟨1, _⟩ => ⟨S8256, .i32⟩
  | .hbm, ⟨2, _⟩ => ⟨S8256, .i1⟩
  | .hbm, ⟨3, _⟩ => ⟨S8256, .i32⟩
  | .hbm, ⟨4, _⟩ => ⟨S8256, .i1⟩
  | .hbm, ⟨5, _⟩ => ⟨S128, .i32⟩
  | .hbm, ⟨6, _⟩ => ⟨S128, .i1⟩
  | .hbm, ⟨7, _⟩ => ⟨S128, .i1⟩
  | .hbm, ⟨8, _⟩ => ⟨S8128, .i32⟩
  | .hbm, ⟨9, _⟩ => ⟨S8128, .i1⟩
  | .hbm, ⟨10, _⟩ => ⟨S8128, .i32⟩
  | .hbm, ⟨11, _⟩ => ⟨S8128, .i1⟩
  | .hbm, ⟨12, _⟩ => ⟨S_, .f32⟩
  | .hbm, ⟨13, _⟩ => ⟨S1024x128x128, .f32⟩
  | .hbm, ⟨14, _⟩ => ⟨S_, .i32⟩
  | .hbm, ⟨15, _⟩ => ⟨S8256, .i32⟩
  | .hbm, ⟨16, _⟩ => ⟨S8256, .i32⟩
  | .hbm, ⟨17, _⟩ => ⟨S8256, .i32⟩
  | .hbm, ⟨18, _⟩ => ⟨S_, .i32⟩
  | .hbm, ⟨19, _⟩ => ⟨S8256, .i32⟩
  | .hbm, ⟨20, _⟩ => ⟨S8256, .i32⟩
  | .hbm, ⟨21, _⟩ => ⟨S8256, .i32⟩
  | .hbm, ⟨22, _⟩ => ⟨S8256x1, .i32⟩
  | .hbm, ⟨23, _⟩ => ⟨S8256x1, .i32⟩
  | .hbm, ⟨24, _⟩ => ⟨S8256x2, .i32⟩
  | .hbm, ⟨25, _⟩ => ⟨S1024x128x128, .f32⟩
  | .hbm, ⟨26, _⟩ => ⟨S128x128, .i32⟩
  | .hbm, ⟨27, _⟩ => ⟨S_, .i32⟩
  | .hbm, ⟨28, _⟩ => ⟨S128x128, .i32⟩
  | .hbm, ⟨29, _⟩ => ⟨S128x128, .i32⟩
  | .hbm, ⟨30, _⟩ => ⟨S128x128, .i32⟩
  | .hbm, ⟨31, _⟩ => ⟨S128x128, .i1⟩
  | .hbm, ⟨32, _⟩ => ⟨S1024x128x128, .i1⟩
  | .hbm, ⟨33, _⟩ => ⟨S_, .f32⟩
  | .hbm, ⟨34, _⟩ => ⟨S1024x128x128, .f32⟩
  | .hbm, ⟨35, _⟩ => ⟨S1024x128x128, .f32⟩
  | .hbm, ⟨36, _⟩ => ⟨S128, .i32⟩
  | .hbm, ⟨37, _⟩ => ⟨S128, .i32⟩
  | .hbm, ⟨38, _⟩ => ⟨S_, .i32⟩
  | .hbm, ⟨39, _⟩ => ⟨S128, .i32⟩
  | .hbm, ⟨40, _⟩ => ⟨S128, .i1⟩
  | .hbm, ⟨41, _⟩ => ⟨S_, .i32⟩
  | .hbm, ⟨42, _⟩ => ⟨S128, .i32⟩
  | .hbm, ⟨43, _⟩ => ⟨S128, .i32⟩
  | .hbm, ⟨44, _⟩ => ⟨S128, .i32⟩
  | .hbm, ⟨45, _⟩ => ⟨S_, .i32⟩
  | .hbm, ⟨46, _⟩ => ⟨S128, .i32⟩
  | .hbm, ⟨47, _⟩ => ⟨S128, .i1⟩
  | .hbm, ⟨48, _⟩ => ⟨S_, .i32⟩
  | .hbm, ⟨49, _⟩ => ⟨S128, .i32⟩
  | .hbm, ⟨50, _⟩ => ⟨S128, .i32⟩
  | .hbm, ⟨51, _⟩ => ⟨S128, .i32⟩
  | .hbm, ⟨52, _⟩ => ⟨S128x1, .i32⟩
  | .hbm, ⟨53, _⟩ => ⟨S128x1, .i32⟩
  | .hbm, ⟨54, _⟩ => ⟨S128x2, .i32⟩
  | .hbm, ⟨55, _⟩ => ⟨S1024x128, .f32⟩
  | .hbm, ⟨56, _⟩ => ⟨S1024x128, .f32⟩
  | .hbm, ⟨57, _⟩ => ⟨S_, .f32⟩
  | .hbm, ⟨58, _⟩ => ⟨S1024x128x128, .f32⟩
  | .hbm, ⟨59, _⟩ => ⟨S_, .i32⟩
  | .hbm, ⟨60, _⟩ => ⟨S128, .i32⟩
  | .hbm, ⟨61, _⟩ => ⟨S128, .i32⟩
  | .hbm, ⟨62, _⟩ => ⟨S128, .i32⟩
  | .hbm, ⟨63, _⟩ => ⟨S_, .i32⟩
  | .hbm, ⟨64, _⟩ => ⟨S128, .i32⟩
  | .hbm, ⟨65, _⟩ => ⟨S128, .i32⟩
  | .hbm, ⟨66, _⟩ => ⟨S128, .i32⟩
  | .hbm, ⟨67, _⟩ => ⟨S128x1, .i32⟩
  | .hbm, ⟨68, _⟩ => ⟨S128x1, .i32⟩
  | .hbm, ⟨69, _⟩ => ⟨S128x2, .i32⟩
  | .hbm, ⟨70, _⟩ => ⟨S1024x128x128, .f32⟩
  | .hbm, ⟨71, _⟩ => ⟨S128x128, .i32⟩
  | .hbm, ⟨72, _⟩ => ⟨S128x128, .i32⟩
  | .hbm, ⟨73, _⟩ => ⟨S_, .i32⟩
  | .hbm, ⟨74, _⟩ => ⟨S128x128, .i32⟩
  | .hbm, ⟨75, _⟩ => ⟨S128x128, .i32⟩
  | .hbm, ⟨76, _⟩ => ⟨S128x128, .i1⟩
  | .hbm, ⟨77, _⟩ => ⟨S128x128, .f32⟩
  | .hbm, ⟨78, _⟩ => ⟨S1x128x128, .f32⟩
  | .hbm, ⟨79, _⟩ => ⟨S_, .f32⟩
  | .hbm, ⟨80, _⟩ => ⟨S1x128x128, .f32⟩
  | .hbm, ⟨81, _⟩ => ⟨S1x128x128, .f32⟩
  | .hbm, ⟨82, _⟩ => ⟨S1024x128x128, .f32⟩
  | .hbm, ⟨83, _⟩ => ⟨S1024x128x128, .f32⟩
  | .hbm, ⟨84, _⟩ => ⟨S1024x128x128, .f32⟩
  | .hbm, ⟨85, _⟩ => ⟨S_, .i32⟩
  | .hbm, ⟨86, _⟩ => ⟨S8128, .i32⟩
  | .hbm, ⟨87, _⟩ => ⟨S8128, .i32⟩
  | .hbm, ⟨88, _⟩ => ⟨S8128, .i32⟩
  | .hbm, ⟨89, _⟩ => ⟨S_, .i32⟩
  | .hbm, ⟨90, _⟩ => ⟨S8128, .i32⟩
  | .hbm, ⟨91, _⟩ => ⟨S8128, .i32⟩
  | .hbm, ⟨92, _⟩ => ⟨S8128, .i32⟩
  | .hbm, ⟨93, _⟩ => ⟨S8128x1, .i32⟩
  | .hbm, ⟨94, _⟩ => ⟨S8128x1, .i32⟩
  | .hbm, ⟨95, _⟩ => ⟨S8128x2, .i32⟩
  | .hbm, ⟨96, _⟩ => ⟨S_, .f32⟩
  | .hbm, ⟨97, _⟩ => ⟨S1024x8128, .f32⟩
  | .hbm, ⟨98, _⟩ => ⟨S1024x128x128, .f32⟩
  | _, _ => ⟨S1024x8256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_c_3 : Ref sig .tc := ⟨.hbm, 5, rfl⟩
abbrev main_c_4 : Ref sig .tc := ⟨.hbm, 6, rfl⟩
abbrev main_c_5 : Ref sig .tc := ⟨.hbm, 7, rfl⟩
abbrev main_c_6 : Ref sig .tc := ⟨.hbm, 8, rfl⟩
abbrev main_c_7 : Ref sig .tc := ⟨.hbm, 9, rfl⟩
abbrev main_c_8 : Ref sig .tc := ⟨.hbm, 10, rfl⟩
abbrev main_c_9 : Ref sig .tc := ⟨.hbm, 11, rfl⟩
abbrev main_cst : Ref sig .tc := ⟨.hbm, 12, rfl⟩
abbrev main_v0 : Ref sig .tc := ⟨.hbm, 13, rfl⟩
abbrev main_c_10 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c_11 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_call0_v0 : Ref sig .tc := ⟨.hbm, 26, rfl⟩
abbrev main_call0_c : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_cst : Ref sig .tc := ⟨.hbm, 33, rfl⟩
abbrev main_call0_v6 : Ref sig .tc := ⟨.hbm, 34, rfl⟩
abbrev main_v11 : Ref sig .tc := ⟨.hbm, 35, rfl⟩
abbrev main_call1_v0 : Ref sig .tc := ⟨.hbm, 36, rfl⟩
abbrev main_call1_v1 : Ref sig .tc := ⟨.hbm, 37, rfl⟩
abbrev main_call1_c : Ref sig .tc := ⟨.hbm, 38, rfl⟩
abbrev main_call1_v2 : Ref sig .tc := ⟨.hbm, 39, rfl⟩
abbrev main_call1_v3 : Ref sig .tc := ⟨.hbm, 40, rfl⟩
abbrev main_call1_c_0 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_c_1 : Ref sig .tc := ⟨.hbm, 45, rfl⟩
abbrev main_call1_v7 : Ref sig .tc := ⟨.hbm, 46, rfl⟩
abbrev main_call1_v8 : Ref sig .tc := ⟨.hbm, 47, rfl⟩
abbrev main_call1_c_2 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_v12 : Ref sig .tc := ⟨.hbm, 55, rfl⟩
abbrev main_v13 : Ref sig .tc := ⟨.hbm, 56, rfl⟩
abbrev main_cst_12 : Ref sig .tc := ⟨.hbm, 57, rfl⟩
abbrev main_v14 : Ref sig .tc := ⟨.hbm, 58, rfl⟩
abbrev main_c_13 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_c_14 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_c_15 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_cst_16 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_c_17 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_c_18 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_cst_19 : Ref sig .tc := ⟨.hbm, 96, rfl⟩
abbrev main_v46 : Ref sig .tc := ⟨.hbm, 97, rfl⟩
abbrev main_v47 : Ref sig .tc := ⟨.hbm, 98, rfl⟩

abbrev nD : Nat := 1
abbrev τ : Topo := Topo.v7x

variable {F : FTy → Type} [FloatOps F]
-- ==== Proof.Tri.lean ====
/-
  The arithmetic of a packed lower triangle, on natural numbers alone: where row `i` of the triangle starts in the
  packed vector, what the square matrix holds at row `i`, column `c`, and how far a row-major square has been filled
  when its columns are written sixteen at a time, top to bottom.
-/
module

public import Mathlib.Tactic.Ring
public import Mathlib.Tactic.NormNum
public import Mathlib.Algebra.BigOperators.Group.Finset.Basic

@[expose] public section

namespace Cert.Proof.Tri

/-- The number of entries before row `n` of the packed triangle. -/
def tri (n : ℕ) : ℕ := n * (n + 1) / 2

/-- Row `n` of the triangle has `n + 1` entries. -/
theorem tri_succ (n : ℕ) : tri (n + 1) = tri n + n + 1 := by
  unfold tri
  rw [show (n + 1) * (n + 1 + 1) = n * (n + 1) + 2 * (n + 1) by ring, Nat.add_mul_div_left _ _ (by norm_num : 0 < 2)]
  ring

/-- Later rows start later. -/
theorem tri_mono {a b : ℕ} (h : a ≤ b) : tri a ≤ tri b :=
  Nat.div_le_div_right (Nat.mul_le_mul h (Nat.succ_le_succ h))

/-- A place in the packed triangle has one row and one column. -/
theorem place_unique {i j r c : ℕ} (hj : j ≤ i) (hc : c ≤ r) (h : tri i + j = tri r + c) : i = r ∧ j = c := by
  have hir : ¬i < r := fun hlt => by
    have h1 := tri_mono (show i + 1 ≤ r from hlt)
    rw [tri_succ] at h1
    omega
  have hri : ¬r < i := fun hlt => by
    have h1 := tri_mono (show r + 1 ≤ i from hlt)
    rw [tri_succ] at h1
    omega
  obtain rfl : i = r := by omega
  exact ⟨rfl, by omega⟩

/-- A row below the 128th starts early enough for its entries to lie in the packed vector of 8256. -/
theorem tri_bound {i : ℕ} (h : i < 128) : tri i + i + 1 ≤ 8256 := by
  rw [← tri_succ]; exact tri_mono (b := 128) h

/-- The sixteen packed entries read for columns `16 c …` of row `i` lie in the vector. -/
theorem tri_read {i c : ℕ} (h : i < 128) (hc : 16 * c ≤ i) : tri i + 16 * c + 16 ≤ 8256 := by
  by_cases hi : i < 127
  · have h1 := tri_mono (show i ≤ 126 by omega)
    have h2 : tri 126 = 8001 := by decide
    by_cases h3 : 16 * c ≤ 112
    · omega
    · omega
  · have h2 : tri 127 = 8128 := by decide
    obtain rfl : i = 127 := by omega
    omega

variable {α : Type}

/-- The square's entry at row `i`, column `c`: below the diagonal the packed entry, on it the packed entry through
    `dg`, above it `z`. -/
def entry (dg : α → α) (z : α) (x : ℕ → α) (i c : ℕ) : α :=
  if c < i then x (tri i + c) else if c = i then dg (x (tri i + c)) else z

/-- Above the diagonal the entry does not depend on the packed vector. -/
theorem entry_upper (dg : α → α) (z : α) (x : ℕ → α) {i c : ℕ} (h : i < c) : entry dg z x i c = z := by
  rw [entry, if_neg (by omega), if_neg (by omega)]

/-- An entry reads the packed vector's first 8256 entries only. -/
theorem entry_congr (dg : α → α) (z : α) {x x' : ℕ → α} (hx : ∀ n, n < 8256 → x n = x' n) {i : ℕ} (hi : i < 128) (c : ℕ) :
    entry dg z x i c = entry dg z x' i c := by
  have hb := tri_bound hi
  unfold entry
  by_cases h1 : c < i
  · rw [if_pos h1, if_pos h1, hx _ (by omega)]
  · by_cases h2 : c = i
    · rw [if_neg h1, if_neg h1, if_pos h2, if_pos h2, hx _ (by omega)]
    · rw [if_neg h1, if_neg h1, if_neg h2, if_neg h2]

/-- How much of the row-major 128 × 128 square `h` already holds: the column blocks before `c` whole, block `c`'s rows
    before `16 c + t`, and in every block `b` the rows above `16 b`. -/
def Filled (dg : α → α) (z : α) (x h : ℕ → α) (c t : ℕ) : Prop :=
  ∀ r q, r < 128 → q < 128 → (q / 16 < c ∨ (q / 16 = c ∧ r < 16 * c + t) ∨ r < 16 * (q / 16)) → h (128 * r + q) = entry dg z x r q

/-- A square of `z`s is filled as far as the upper blocks go. -/
theorem filled_zero {dg : α → α} {z : α} {x h : ℕ → α} (hz : ∀ p, p < 16384 → h p = z) : Filled dg z x h 0 0 := by
  intro r q hr hq hd
  rw [hz _ (by omega), entry_upper]
  omega

/-- After the last row of block `c` the next block may start. -/
theorem filled_next {dg : α → α} {z : α} {x h : ℕ → α} {c : ℕ} (hf : Filled dg z x h c (128 - 16 * c)) :
    Filled dg z x h (c + 1) 0 := by
  intro r q hr hq hd
  refine hf r q hr hq ?_
  omega

/-- After eight blocks the square is the matrix. -/
theorem filled_full {dg : α → α} {z : α} {x h : ℕ → α} {t : ℕ} (hf : Filled dg z x h 8 t) {p : ℕ} (hp : p < 16384) :
    h p = entry dg z x (p / 128) (p % 128) := by
  have h1 := hf (p / 128) (p % 128) (by omega) (by omega) (by omega)
  rwa [show 128 * (p / 128) + p % 128 = p by omega] at h1

/-- A square full for one vector is, as far as the upper blocks go, filled for any other. -/
theorem filled_again {dg : α → α} {z : α} {x x' h : ℕ → α} {t : ℕ} (hf : Filled dg z x h 8 t) : Filled dg z x' h 0 0 := by
  intro r q hr hq hd
  rw [hf r q hr hq (by omega), entry_upper _ _ _ (by omega), entry_upper _ _ _ (by omega)]

/-- The square filled from a packed vector is filled from any with the same 8256 entries. -/
theorem filled_congr {dg : α → α} {z : α} {x x' h : ℕ → α} {c t : ℕ} (hx : ∀ n, n < 8256 → x n = x' n) (hf : Filled dg z x h c t) :
    Filled dg z x' h c t :=
  fun r q hr hq hd => (hf r q hr hq hd).trans (entry_congr dg z hx hr q)

/-- Writing sixteen entries of row `16 c + t` at block `c`, and nothing else, fills one row more. -/
theorem filled_step {dg : α → α} {z : α} {x h h' : ℕ → α} {c t : ℕ} (hi : 16 * c + t < 128) (hf : Filled dg z x h c t)
    (hin : ∀ l, l < 16 → h' (128 * (16 * c + t) + 16 * c + l) = entry dg z x (16 * c + t) (16 * c + l))
    (hout : ∀ p, p < 16384 → ¬(128 * (16 * c + t) + 16 * c ≤ p ∧ p < 128 * (16 * c + t) + 16 * c + 16) → h' p = h p) :
    Filled dg z x h' c (t + 1) := by
  intro r q hr hq hd
  by_cases hb : r = 16 * c + t ∧ q / 16 = c
  · obtain ⟨rfl, hb⟩ := hb
    have := hin (q - 16 * c) (by omega)
    rwa [show 128 * (16 * c + t) + 16 * c + (q - 16 * c) = 128 * (16 * c + t) + q by omega, show 16 * c + (q - 16 * c) = q by omega] at this
  · rw [hout _ (by omega) (by omega)]
    exact hf r q hr hq (by omega)

end Cert.Proof.Tri

end
-- ==== Proof.Nth.lean ====
/-
  A vector of `N` entries read at a natural number, and what a store of a run of entries into it changes.
-/
module

public import Idealize.ShloMosaic.Lib.Tactic
public import Idealize.ShloMosaic.Lib.SortFacts
public import Idealize.ShloMosaic.Lib.Writes
public import Idealize.ShloMosaic.Lib.Pipeline.Value

@[expose] public section

namespace Cert.Proof

open Idealize.ShloMosaic

/-- The shape of a vector of `N` entries. -/
abbrev Line (N : ℕ) : Shape := ⟨1, ![N]⟩

/-- Entry `n` of a vector, `n` taken around at its length. -/
def nth {α : Type} {N : ℕ} [NeZero N] (f : (Line N).Idx → α) (n : ℕ) : α := f (Shape.Idx.ofFin (Fin.ofNat N n))

/-- The index whose coordinate is `n` reads entry `n`. -/
theorem nth_eq {α : Type} {N : ℕ} [NeZero N] (f : (Line N).Idx → α) (j : (Line N).Idx) {n : ℕ} (h : (j 0).val = n) :
    nth f n = f j := by
  subst h
  have hj : (j 0).val < N := (j 0).isLt
  refine congrArg f ((Shape.Idx.eq_ofFin j).trans (congrArg Shape.Idx.ofFin (Fin.ext ?_))).symm
  show (j 0).val = (j 0).val % N
  exact (Nat.mod_eq_of_lt hj).symm

variable {sig : RefSig} {κ : Kind} {sp : Space} {e : EltTy} {Val : EltTy → Type} {N n : ℕ} [NeZero N] [NeZero n]

/-- A run of `n` entries read from `o` on: its entry `l` is entry `o + l`. -/
theorem nth_read_run (v : View sig κ sp (Line N) e) (f : v.ty.Contents Val) {off : Fin 1 → ℕ} {o : ℕ} (ho : off = ![o])
    (inb : ∀ a, off a + (Line n).size a ≤ (Line N).size a) {l : ℕ} (hl : l < n) :
    nth (N := n) ((v.slice (Rect.unit (s := Line N) off (Line n).size inb)).read Val f) l = nth (v.read Val f) (o + l) := by
  subst ho
  have h0 : o + n ≤ N := inb 0
  rw [nth_eq _ (Shape.Idx.ofFin ⟨l, hl⟩) (n := l) rfl]
  rw [nth_eq (v.read Val f) ((Rect.unit (s := Line N) ![o] (Line n).size inb).emb (Shape.Idx.ofFin ⟨l, hl⟩)) (by
    rw [Rect.emb_apply]; show o + 1 * l = o + l; omega)]
  rfl

/-- A run of `n` entries written from `o` on: inside the run the vector holds what was written, -/
theorem nth_write_in (v : View sig κ sp (Line N) e) (f : v.ty.Contents Val) {off : Fin 1 → ℕ} {o : ℕ} (ho : off = ![o])
    (inb : ∀ a, off a + (Line n).size a ≤ (Line N).size a) (w : (Line n).Idx → Val e) {l : ℕ} (hl : l < n) :
    nth (v.read Val ((v.slice (Rect.unit (s := Line N) off (Line n).size inb)).write Val f w Finset.univ)) (o + l) = nth w l := by
  subst ho
  have h0 : o + n ≤ N := inb 0
  rw [nth_eq w (Shape.Idx.ofFin ⟨l, hl⟩) (n := l) rfl]
  rw [nth_eq _ ((Rect.unit (s := Line N) ![o] (Line n).size inb).emb (Shape.Idx.ofFin ⟨l, hl⟩)) (by
    rw [Rect.emb_apply]; show o + 1 * l = o + l; omega)]
  exact View.read_slice_write_emb _ _ _ (Finset.mem_univ _)

/-- and outside it what it held before. -/
theorem nth_write_out (v : View sig κ sp (Line N) e) (f : v.ty.Contents Val) {off : Fin 1 → ℕ} {o : ℕ} (ho : off = ![o])
    (inb : ∀ a, off a + (Line n).size a ≤ (Line N).size a) (w : (Line n).Idx → Val e) {p : ℕ} (hp : p < N)
    (h : ¬(o ≤ p ∧ p < o + n)) :
    nth (v.read Val ((v.slice (Rect.unit (s := Line N) off (Line n).size inb)).write Val f w Finset.univ)) p = nth (v.read Val f) p := by
  subst ho
  rw [nth_eq (v.read Val f) (Shape.Idx.ofFin ⟨p, hp⟩) (n := p) rfl, nth_eq _ (Shape.Idx.ofFin ⟨p, hp⟩) (n := p) rfl]
  refine View.read_slice_write_of_not_mem _ _ _ _ ?_
  rw [Rect.map_emb_univ, Rect.mem_set_unit]
  intro hm
  exact h (hm 0)

end Cert.Proof

end
-- ==== Proof.Grid.lean ====
/-
  A table of `M` rows of `N` entries read at two natural numbers, and one of its rows seen as a vector.
-/
module

public import proofs.«01_k».proof.Proof.Nth

@[expose] public section

namespace Cert.Proof

open Idealize.ShloMosaic

/-- The shape of a table of `M` rows of `N` entries. -/
abbrev Grid (M N : ℕ) : Shape := ⟨2, ![M, N]⟩

/-- The entry at row `i` and column `j`, each taken around at its length. -/
def at2 {α : Type} {M N : ℕ} [NeZero M] [NeZero N] (f : (Grid M N).Idx → α) (i j : ℕ) : α :=
  f (Shape.pair (d := ![M, N]) (Fin.ofNat M i) (Fin.ofNat N j))

/-- The index with coordinates `i` and `j` reads that entry. -/
theorem at2_eq {α : Type} {M N : ℕ} [NeZero M] [NeZero N] (f : (Grid M N).Idx → α) (x : (Grid M N).Idx) {i j : ℕ}
    (hi : (x 0).val = i) (hj : (x 1).val = j) : at2 f i j = f x := by
  subst hi hj
  have h0 : (x 0).val < M := (x 0).isLt
  have h1 : (x 1).val < N := (x 1).isLt
  refine congrArg f (Eq.trans ?_ (Shape.pair_eta x))
  congr 1 <;> refine Fin.ext ?_
  · show (x 0).val % M = (x 0).val
    exact Nat.mod_eq_of_lt h0
  · show (x 1).val % N = (x 1).val
    exact Nat.mod_eq_of_lt h1

/-- One piece as large as the view is the view written. -/
theorem writes_all {sig : RefSig} {κ : Kind} {sp : Space} {s : Shape} {e : EltTy} {Val : EltTy → Type} (v : View sig κ sp s e)
    (f : v.ty.Contents Val) (w : s.Idx → Val e) : v.writes Val f [⟨Rect.whole s, w⟩] = v.write Val f w Finset.univ :=
  (View.write_univ_eq_writes_whole v f [] w).symm

section Row

variable {sig : RefSig} {κ : Kind} {sp : Space} {e : EltTy} {Val : EltTy → Type} {M N : ℕ}

/-- Row `b` of a table, as a vector. -/
abbrev rowView (v : View sig κ sp (Grid M N) e) (off : Fin 2 → ℕ) (inb : ∀ a, off a + (Grid 1 N).size a ≤ (Grid M N).size a)
    (hn : (Line N).numel = (Grid 1 N).numel) : View sig κ sp (Line N) e :=
  (v.slice (Rect.unit (s := Grid M N) off (Grid 1 N).size inb)).reshape (Line N) hn

/-- Entry `x` of the row is the table's entry with coordinates `b` and `x`. -/
theorem rowView_emb (v : View sig κ sp (Grid M N) e) {off : Fin 2 → ℕ} {b : ℕ} (ho : off = ![b, 0])
    (inb : ∀ a, off a + (Grid 1 N).size a ≤ (Grid M N).size a) (hn : (Line N).numel = (Grid 1 N).numel) (x : (Line N).Idx) :
    ∃ y : (Grid M N).Idx, (y 0).val = b ∧ (y 1).val = (x 0).val ∧ (rowView v off inb hn).emb x = v.emb y := by
  subst ho
  refine ⟨(Rect.unit (s := Grid M N) ![b, 0] (Grid 1 N).size inb).emb (Shape.reshapeEquiv hn x), ?_, ?_, rfl⟩
  · rw [Shape.reshapeEquiv_cons_one, Rect.emb_apply]; rfl
  · rw [Shape.reshapeEquiv_cons_one, Rect.emb_apply]; show 0 + 1 * (x 0).val = _; omega

/-- A row read: its entry `n` is the table's entry at row `b` and column `n`. -/
theorem rowView_read [NeZero M] [NeZero N] (v : View sig κ sp (Grid M N) e) (f : v.ty.Contents Val) {off : Fin 2 → ℕ} {b : ℕ} (ho : off = ![b, 0])
    (inb : ∀ a, off a + (Grid 1 N).size a ≤ (Grid M N).size a) (hn : (Line N).numel = (Grid 1 N).numel) {n : ℕ} (h : n < N) :
    nth ((rowView v off inb hn).read Val f) n = at2 (v.read Val f) b n := by
  obtain ⟨y, h0, h1, hy⟩ := rowView_emb v ho inb hn (Shape.Idx.ofFin ⟨n, h⟩)
  rw [nth_eq _ (Shape.Idx.ofFin ⟨n, h⟩) (n := n) rfl, at2_eq _ y (j := n) h0 h1, View.read_apply, View.read_apply]
  rw [hy]

/-- Which of the table's entries lie in the row. -/
theorem rowView_mem (v : View sig κ sp (Grid M N) e) {off : Fin 2 → ℕ} {b : ℕ} (ho : off = ![b, 0])
    (inb : ∀ a, off a + (Grid 1 N).size a ≤ (Grid M N).size a) (hn : (Line N).numel = (Grid 1 N).numel) (y : (Grid M N).Idx) :
    v.emb y ∈ (rowView v off inb hn).set ↔ (y 0).val = b := by
  constructor
  · intro h
    obtain ⟨l, -, hl⟩ := Finset.mem_map.mp h
    obtain ⟨y', h0, -, hy⟩ := rowView_emb v ho inb hn l
    rw [← v.emb.injective (hy.symm.trans hl)]
    exact h0
  · intro h
    obtain ⟨y', h0, h1, hy⟩ := rowView_emb v ho inb hn (Shape.Idx.ofFin (y 1))
    have hyy : y = y' := by
      rw [← Shape.pair_eta (d := ![M, N]) y, ← Shape.pair_eta (d := ![M, N]) y']
      congr 1
      · exact Fin.ext (h.trans h0.symm)
      · exact Fin.ext h1.symm
    rw [hyy, ← hy]
    exact View.emb_mem_set _ _

/-- A row written: the table's entry there is the vector's entry of its column. -/
theorem rowView_write [NeZero N] (v : View sig κ sp (Grid M N) e) (f : v.ty.Contents Val) (w : (Line N).Idx → Val e) {off : Fin 2 → ℕ} {b : ℕ}
    (ho : off = ![b, 0]) (inb : ∀ a, off a + (Grid 1 N).size a ≤ (Grid M N).size a) (hn : (Line N).numel = (Grid 1 N).numel)
    (y : (Grid M N).Idx) (h : (y 0).val = b) :
    (rowView v off inb hn).write Val f w Finset.univ (v.emb y) = _root_.cast (congrArg Val v.elt_eq.symm) (nth w (y 1).val) := by
  obtain ⟨l, -, hl⟩ := Finset.mem_map.mp ((rowView_mem v ho inb hn y).mpr h)
  obtain ⟨y', -, h1, hy⟩ := rowView_emb v ho inb hn l
  have hyy : y' = y := v.emb.injective (hy.symm.trans hl)
  subst hyy
  rw [nth_eq w l h1.symm, ← hl]
  exact View.write_emb_of_mem (v := rowView v off inb hn) f w (Finset.mem_univ l)

end Row

end Cert.Proof
-- ==== Proof.KernelIdeal.Rows.lean ====
/-
  One row of one column block: sixteen packed entries loaded, cut at the diagonal, stored as sixteen entries of the
  square. What that step stores, and one statement of the step's run that all eight row loops use.
-/
module

public import proofs.«01_k».proof.Defs
public import proofs.«01_k».proof.Proof.Gen.KernelIdeal
public import proofs.«01_k».proof.Proof.Gen.KernelIdeal.Skeleton
public import proofs.«01_k».proof.Proof.Tri
public import proofs.«01_k».proof.Proof.Nth
public import Idealize.ShloMosaic.Lib.SparseCore.Quiescent
public import Idealize.ShloMosaic.Lib.StableHlo.Run
public import Idealize.ShloMosaic.Lib.Pipeline.Kit
public import Idealize.ShloMosaic.Lib.Pointwise
public import Idealize.ShloMosaic.Lib.Tactic

@[expose] public section

noncomputable section

namespace Cert.Proof.KernelIdeal

open Cert.KernelIdeal Cert.KernelIdeal.Gen Cert.Proof.Tri

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The values -/

section Values

variable [FloatOps F]

/-- What stands above the diagonal. -/
def zed : F .f32 := Scalar.ofBits .f32 0x00000000#32

/-- What the diagonal holds of a packed entry: its absolute value and the constant added. -/
def onDiag (a : F .f32) : F .f32 := FloatOps.addf (FloatOps.absf a) (Scalar.ofBits .f32 0x322BCC77#32)

/-- The sixteen values a row step stores, from the sixteen it loaded: the lanes before `w - C` as loaded, lane `w - C`
    through `onDiag`, the lanes after it `zed`. -/
def rowPay (w C : BitVec 32) (v : Vec F S16 .f32) : FVec F S16 .f32 :=
  shapeCast S16
    (select (cmpi .slt (iota .scVector S16 32 [0] iota_S16_d0_w32_scVector) (broadcast S16 (Scalar.subi w C)))
      (shapeCast S16 v shapeCasts_S16_S16)
      (select (cmpi .eq (iota .scVector S16 32 [0] iota_S16_d0_w32_scVector) (broadcast S16 (Scalar.subi w C)))
        (addf (absf (shapeCast S16 v shapeCasts_S16_S16)) (broadcast S16 (Scalar.ofBits .f32 0x322BCC77#32)))
        (broadcast S16 (Scalar.ofBits .f32 0x00000000#32))))
    shapeCasts_S16_S16

/-- A row step's values lane by lane: at row `16 c + t`, lane `l` is the square's entry at column `16 c + l`. -/
theorem rowPay_nth {c t : ℕ} (hi : 16 * c + t < 128) (C : BitVec 32) (hC : C = BitVec.ofNat 32 (16 * c)) (v : Vec F S16 .f32)
    (x : ℕ → F .f32) (hv : ∀ l, l < 16 → nth v l = x (tri (16 * c + t) + 16 * c + l)) {l : ℕ} (hl : l < 16) :
    nth (rowPay (Scf.iv C 1#32 t) C v) l = entry onDiag zed x (16 * c + t) (16 * c + l) := by
  subst hC
  have hsub : Scalar.subi (Scf.iv (BitVec.ofNat 32 (16 * c)) 1#32 t) (BitVec.ofNat 32 (16 * c)) = BitVec.ofNat 32 t := by
    show BitVec.ofNat 32 (16 * c) + BitVec.ofNat 32 t * 1#32 - BitVec.ofNat 32 (16 * c) = BitVec.ofNat 32 t
    rw [BitVec.mul_one, BitVec.add_comm, BitVec.add_sub_cancel]
  have hlt : (BitVec.ofNat 32 l).slt (BitVec.ofNat 32 t) = decide (l < t) := by
    have h1 : (BitVec.ofNat 32 l).toInt = l := by rw [BitVec.toInt_ofNat', Int.bmod_eq_of_le (by omega) (by omega)]
    have h2 : (BitVec.ofNat 32 t).toInt = t := by rw [BitVec.toInt_ofNat', Int.bmod_eq_of_le (by omega) (by omega)]
    rw [BitVec.slt, h1, h2]
    simp
  have heq : (BitVec.ofNat 32 l == BitVec.ofNat 32 t) = decide (l = t) := by
    rw [Bool.eq_iff_iff, beq_iff_eq, decide_eq_true_eq]
    constructor
    · intro h
      have := congrArg BitVec.toNat h
      simp only [BitVec.toNat_ofNat] at this
      omega
    · rintro rfl; rfl
  have hx := hv l hl
  rw [nth_eq v (Shape.Idx.ofFin ⟨l, hl⟩) (n := l) rfl] at hx
  rw [nth_eq _ (Shape.Idx.ofFin ⟨l, hl⟩) (n := l) rfl]
  unfold rowPay
  rw [shapeCast_self, shapeCast_self, hsub]
  have hlane : iota .scVector S16 32 [0] iota_S16_d0_w32_scVector (Shape.Idx.ofFin ⟨l, hl⟩) = BitVec.ofNat 32 (0 * 16 + l) := rfl
  show Scalar.select (BitVec.ofBool ((BitVec.ofNat 32 (0 * 16 + l)).slt (BitVec.ofNat 32 t))) (v (Shape.Idx.ofFin ⟨l, hl⟩))
    (Scalar.select (BitVec.ofBool (BitVec.ofNat 32 (0 * 16 + l) == BitVec.ofNat 32 t)) (onDiag (v (Shape.Idx.ofFin ⟨l, hl⟩))) zed) = _
  rw [show 0 * 16 + l = l by omega, hlt, heq, hx, Tri.entry, Nat.add_assoc (tri _)]
  have hsel : ∀ (p : Prop) [Decidable p] (a b : F .f32), Scalar.select (BitVec.ofBool (decide p)) a b = if p then a else b := by
    intro p _ a b
    unfold Scalar.select
    by_cases hp : p <;> simp [hp]
  rw [hsel, hsel]
  simp only [Nat.add_lt_add_iff_left, Nat.add_left_cancel_iff]

end Values

/-! ## The resources the whole proof is stated over -/

/-- The handshakes' rounds beside the transfers' counters. -/
abbrev UH : Type := URounds (GSem nD τ sig) ℕ
abbrev UU : Type := UH × Counters

local notation "𝕄" => MT nD τ sig (HIx 1) (Elt F) ℕ UU ℕ

abbrev 𝒱₀ : Variants := Variants.none

/-- The packed table, as the tiles see it. -/
abbrev aV : Memref Cert.KernelIdeal.sig Kind.scVector Space.hbm Cert.KernelIdeal.S1024x8256 EltTy.f32 := Memref.whole Cert.KernelIdeal.main_arg0_scv
/-- The table of squares, as the tiles see it. -/
abbrev oV : Memref Cert.KernelIdeal.sig Kind.scVector Space.hbm Cert.KernelIdeal.S1024x16384 EltTy.f32 := Memref.whole Cert.KernelIdeal.main_v0_scv
/-- A tile's buffer for one packed row. -/
abbrev pV : Memref Cert.KernelIdeal.sig Kind.scVector Space.vmem Cert.KernelIdeal.S8256 EltTy.f32 := Memref.whole Cert.KernelIdeal.cc0_scratch0
/-- A tile's buffer for one square. -/
abbrev qV : Memref Cert.KernelIdeal.sig Kind.scVector Space.vmem Cert.KernelIdeal.S16384 EltTy.f32 := Memref.whole Cert.KernelIdeal.cc0_scratch1

abbrev cV (L : grid0.Coords) : Fin τ.nSC := (L 0).castLE hcore0
abbrev jV (L : grid0.Coords) : Fin τ.nSub := (L 1).castLE hsub0
/-- The tile's thread. -/
abbrev tV (d : Dev nD) (L : grid0.Coords) : Thread nD τ := V d (cV L) (jV L)

section Step

variable [FloatOps F] (d : Dev nD) (L : grid0.Coords)

/-- One row step over its offsets, its check, its values and the word it carries on: the shape the eight row loops'
    regions share. -/
def rowStep (oL oS : Fin 1 → ℕ) (chk : Prop) (hdec : Decidable chk) (hL : chk → ∀ a, oL a + S16.size a ≤ S8256.size a)
    (hS : ∀ a, oS a + S16.size a ≤ S16384.size a) (pay : Vec F S16 .f32 → FVec F S16 .f32) (nxt : BitVec 32) :
    Prog (TpuEff nD τ sig (Elt F) Λ₀ (.scVector ((L 0).castLE hcore0) ((L 1).castLE hsub0))) (BitVec 32) := do
  have hw : chk := (← Prog.lift (TpuEff.assume chk hdec)).down
  let v : Vec F S16 .f32 ← Prog.lift (.load pV (Rect.unit (s := S8256) oL S16.size (hL hw)).toLoadRect (View.loadsAt_vmem h_S16))
  let _v' : Vec F S16 .f32 ← Prog.lift (.load qV (Rect.unit (s := S16384) oS S16.size hS).toLoadRect (View.loadsAt_vmem h_S16))
  Prog.lift (.store qV (Rect.unit (s := S16384) oS S16.size hS) (pay v) Finset.univ (View.stores_vmem_bits_univ h_S16 rfl) (.inl rfl))
  pure nxt

/-- Before row `t` of block `c`: the packed row `g` in its buffer, the square filled that far, the carried word the
    start of row `16 c + t`. -/
def rowInv (g : Buf (Elt F) ((tV d L).loc cc0_scratch0)) (c : ℕ) (t : ℕ) (a : BitVec 32) : sProp 𝕄 :=
  iprop(∃ h : Buf (Elt F) ((tV d L).loc cc0_scratch1),
    ⌜a = BitVec.ofNat 32 (tri (16 * c + t)) ∧ Filled onDiag zed (nth (N := 8256) g) (nth (N := 16384) h) c t⌝
      ∗ ((pV).view.loc (tV d L) ↦{fullShare} g) ∗ ((qV).view.loc (tV d L) ↦{fullShare} h))

theorem rowStep_wp (g : Buf (Elt F) ((tV d L).loc cc0_scratch0)) (c t : ℕ) (hi : 16 * c + t < 128) (C : BitVec 32)
    (hC : C = BitVec.ofNat 32 (16 * c)) (a : BitVec 32) (oL oS : Fin 1 → ℕ) (chk : Prop) (hdec : Decidable chk)
    (hL : chk → ∀ a, oL a + S16.size a ≤ S8256.size a) (hS : ∀ a, oS a + S16.size a ≤ S16384.size a)
    (pay : Vec F S16 .f32 → FVec F S16 .f32) (nxt : BitVec 32)
    (hchk : (∀ a, oL a + S16.size a ≤ S8256.size a) → chk)
    (hoL : oL = ![(a + C).toNat])
    (hoS : oS = ![128 * (16 * c + t) + 16 * c]) (hpay : pay = rowPay (Scf.iv C 1#32 t) C)
    (hnxt : nxt = a + Scf.iv C 1#32 t + 1#32) :
    rowInv d L g c t a ⊢ wp frame (wpE (defs₀ (F := F)) 𝒱₀ (tV d L) none) Set.univ
      (rowStep L oL oS chk hdec hL hS pay nxt) (rowInv d L g c (t + 1)) := by
  unfold rowInv
  iintro ⟨%h, %hh, Hp, Hq⟩
  obtain ⟨ha, hf⟩ := hh
  have htri := tri_bound hi
  have hrd := tri_read hi (c := c) (by omega)
  have hoL' : oL = ![tri (16 * c + t) + 16 * c] := by
    rw [hoL, ha, hC, ← BitVec.ofNat_add, BitVec.toNat_ofNat, Nat.mod_eq_of_lt (by omega)]
  have hinb : ∀ a, oL a + S16.size a ≤ S8256.size a := by
    subst hoL'; intro a; obtain rfl : a = 0 := Subsingleton.elim _ _
    exact hrd
  have hchk' : chk := hchk hinb
  unfold rowStep
  sl_exec
  sl_step
  have hnx : nxt = BitVec.ofNat 32 (tri (16 * c + (t + 1))) := by
    rw [show 16 * c + (t + 1) = 16 * c + t + 1 by omega, tri_succ, hnxt, ha, hC, Scf.iv, BitVec.mul_one, ← BitVec.ofNat_add,
      ← BitVec.ofNat_add, ← BitVec.ofNat_add]
  have hfill : Filled onDiag zed (nth (N := 8256) g) (nth (N := 16384) ((qV).view.writes (Elt F) h
      [⟨Rect.unit (s := S16384) oS S16.size hS, pay ((pV).view.readAt (Elt F) (Rect.unit (s := S8256) oL S16.size hinb).toLoadRect g)⟩])) c (t + 1) := by
    rw [View.writes_singleton]
    refine filled_step hi hf (fun l hl => ?_) (fun p hp hn => ?_)
    · refine (nth_write_in (n := 16) (qV).view h hoS hS _ hl).trans ?_
      rw [hpay]
      refine rowPay_nth hi C hC _ _ (fun l hl => ?_) hl
      exact nth_read_run (n := 16) (pV).view g hoL' hinb hl
    · exact nth_write_out (n := 16) (qV).view h hoS hS _ hp hn
  iexists _
  isplitr
  · ipureintro; exact ⟨hnx, hfill⟩
  isplitl [Hp]; · iexact Hp
  iexact Hq

end Step

end Cert.Proof.KernelIdeal

end
-- ==== Proof.KernelIdeal.Loops.lean ====
/-
  The eight row loops of one matrix: each takes the square filled up to its block to the square filled past it.
-/
module

public import proofs.«01_k».proof.Proof.KernelIdeal.Rows

@[expose] public section

noncomputable section

namespace Cert.Proof.KernelIdeal

open Cert.KernelIdeal Cert.KernelIdeal.Gen Cert.Proof.Tri

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Loops

variable [FloatOps F] (d : Dev nD) (L : grid0.Coords)

/-- The packed row `g` in its buffer and the square filled up to block `c`. -/
def square (g : Buf (Elt F) ((tV d L).loc cc0_scratch0)) (c : ℕ) : sProp 𝕄 :=
  iprop(∃ h : Buf (Elt F) ((tV d L).loc cc0_scratch1), ⌜Filled onDiag zed (nth (N := 8256) g) (nth (N := 16384) h) c 0⌝
      ∗ ((pV).view.loc (tV d L) ↦{fullShare} g) ∗ ((qV).view.loc (tV d L) ↦{fullShare} h))

/-- A row loop of block `c`, its region one row's step, fills the block; the program goes on from there. -/
theorem rowLoop (g : Buf (Elt F) ((tV d L).loc cc0_scratch0)) (c : ℕ) (l : Scf.Loop 32) (hok : l.OK) (init : BitVec 32)
    (body : Fin l.trips → BitVec 32 → Prog (TpuEff nD τ sig (Elt F) Λ₀ (.scVector ((L 0).castLE hcore0) ((L 1).castLE hsub0))) (BitVec 32))
    (ht : l.trips = 128 - 16 * c) (hinit : init = BitVec.ofNat 32 (tri (16 * c)))
    (hbody : ∀ k a, rowInv d L g c k.val a ⊢ wp frame (wpE (defs₀ (F := F)) 𝒱₀ (tV d L) none) Set.univ (body k a) (rowInv d L g c (k.val + 1)))
    {β : Type} {kk : BitVec 32 → Prog (TpuEff nD τ sig (Elt F) Λ₀ (.scVector ((L 0).castLE hcore0) ((L 1).castLE hsub0))) β}
    {Q : β → sProp 𝕄} :
    square d L g c ⊢ iprop((∀ a, square d L g (c + 1) -∗ wp frame (wpE (defs₀ (F := F)) 𝒱₀ (tV d L) none) Set.univ (kk a) Q)
      -∗ wp frame (wpE (defs₀ (F := F)) 𝒱₀ (tV d L) none) Set.univ (Scf.Loop.for l hok init body >>= kk) Q) := by
  iintro Hs HK
  iapply (Scf.wp_for_bind frame _ _ l.lb l.ub l.st hok init body (fun k a => rowInv d L g c k a) hbody) $$ [Hs]
  · unfold square rowInv
    icases Hs with ⟨%h, %hf, Hp, Hq⟩
    iexists h
    isplitr
    · ipureintro; exact ⟨hinit, hf⟩
    isplitl [Hp]; · iexact Hp
    iexact Hq
  iintro %a HI
  iapply HK
  unfold square rowInv
  icases HI with ⟨%h, %hf, Hp, Hq⟩
  iexists h
  isplitr
  · ipureintro; exact filled_next (ht ▸ hf.2)
  isplitl [Hp]; · iexact Hp
  iexact Hq

/-- A trip of a block's loop is a row of the matrix. -/
theorem row_lt {n c k : ℕ} (h : n ≤ 128 - 16 * c) (hk : k < n) : 16 * c + k < 128 := by omega

/-! Each of the eight regions is a row's step. -/

theorem row0 (g : Buf (Elt F) ((tV d L).loc cc0_scratch0)) (v1 c0 c1 : BitVec 32) (n : Fin k0_t2_loop.trips) (k : Fin k0_t3_loop.trips) (a : BitVec 32) :
    rowInv d L g 0 k.val a ⊢ wp frame (wpE (defs₀ (F := F)) 𝒱₀ (tV d L) none) Set.univ
      (k0_t3_body L aV (Memref.isWhole_whole _) oV (Memref.isWhole_whole _) pV (Memref.isWhole_whole _) qV (Memref.isWhole_whole _) cc0_scoped0 cc0_scoped1 v1 (iota .scVector S16 32 [0] iota_S16_d0_w32_scVector) c0 c1 n k a)
      (rowInv d L g 0 (k.val + 1)) :=
  rowStep_wp d L g 0 k (row_lt k0_t3_abs.2.1 k.isLt) 0#32 rfl a (k0_off3 a) (k0_off4 k) (k0_chk1 a) (k0_chk1.dec a) (k0_off3_inb a)
    (k0_off4_inb k) (k0_pay4 (iota .scVector S16 32 [0] iota_S16_d0_w32_scVector) k) _ (fun h => h) rfl ((k0_off4_eq k).trans (congrArg (fun n => ![n]) (by omega))) rfl rfl

theorem row1 (g : Buf (Elt F) ((tV d L).loc cc0_scratch0)) (v1 c0 c1 : BitVec 32) (n : Fin k0_t2_loop.trips) (k : Fin k0_t4_loop.trips) (a : BitVec 32) :
    rowInv d L g 1 k.val a ⊢ wp frame (wpE (defs₀ (F := F)) 𝒱₀ (tV d L) none) Set.univ
      (k0_t4_body L aV (Memref.isWhole_whole _) oV (Memref.isWhole_whole _) pV (Memref.isWhole_whole _) qV (Memref.isWhole_whole _) cc0_scoped0 cc0_scoped1 v1 (iota .scVector S16 32 [0] iota_S16_d0_w32_scVector) c0 c1 n k a)
      (rowInv d L g 1 (k.val + 1)) :=
  rowStep_wp d L g 1 k (row_lt k0_t4_abs.2.1 k.isLt) 16#32 rfl a (k0_off5 a) (k0_off6 k) (k0_chk2 a) (k0_chk2.dec a) (k0_off5_inb a)
    (k0_off6_inb k) (k0_pay5 (iota .scVector S16 32 [0] iota_S16_d0_w32_scVector) k) _ (fun h => h) rfl ((k0_off6_eq k).trans (congrArg (fun n => ![n]) (by omega))) rfl rfl

theorem row2 (g : Buf (Elt F) ((tV d L).loc cc0_scratch0)) (v1 c0 c1 : BitVec 32) (n : Fin k0_t2_loop.trips) (k : Fin k0_t5_loop.trips) (a : BitVec 32) :
    rowInv d L g 2 k.val a ⊢ wp frame (wpE (defs₀ (F := F)) 𝒱₀ (tV d L) none) Set.univ
      (k0_t5_body L aV (Memref.isWhole_whole _) oV (Memref.isWhole_whole _) pV (Memref.isWhole_whole _) qV (Memref.isWhole_whole _) cc0_scoped0 cc0_scoped1 v1 (iota .scVector S16 32 [0] iota_S16_d0_w32_scVector) c0 c1 n k a)
      (rowInv d L g 2 (k.val + 1)) :=
  rowStep_wp d L g 2 k (row_lt k0_t5_abs.2.1 k.isLt) 32#32 rfl a (k0_off7 a) (k0_off8 k) (k0_chk3 a) (k0_chk3.dec a) (k0_off7_inb a)
    (k0_off8_inb k) (k0_pay6 (iota .scVector S16 32 [0] iota_S16_d0_w32_scVector) k) _ (fun h => h) rfl ((k0_off8_eq k).trans (congrArg (fun n => ![n]) (by omega))) rfl rfl

theorem row3 (g : Buf (Elt F) ((tV d L).loc cc0_scratch0)) (v1 c0 c1 : BitVec 32) (n : Fin k0_t2_loop.trips) (k : Fin k0_t6_loop.trips) (a : BitVec 32) :
    rowInv d L g 3 k.val a ⊢ wp frame (wpE (defs₀ (F := F)) 𝒱₀ (tV d L) none) Set.univ
      (k0_t6_body L aV (Memref.isWhole_whole _) oV (Memref.isWhole_whole _) pV (Memref.isWhole_whole _) qV (Memref.isWhole_whole _) cc0_scoped0 cc0_scoped1 v1 (iota .scVector S16 32 [0] iota_S16_d0_w32_scVector) c0 c1 n k a)
      (rowInv d L g 3 (k.val + 1)) :=
  rowStep_wp d L g 3 k (row_lt k0_t6_abs.2.1 k.isLt) 48#32 rfl a (k0_off9 a) (k0_off10 k) (k0_chk4 a) (k0_chk4.dec a) (k0_off9_inb a)
    (k0_off10_inb k) (k0_pay7 (iota .scVector S16 32 [0] iota_S16_d0_w32_scVector) k) _ (fun h => h) rfl ((k0_off10_eq k).trans (congrArg (fun n => ![n]) (by omega))) rfl rfl

theorem row4 (g : Buf (Elt F) ((tV d L).loc cc0_scratch0)) (v1 c0 c1 : BitVec 32) (n : Fin k0_t2_loop.trips) (k : Fin k0_t7_loop.trips) (a : BitVec 32) :
    rowInv d L g 4 k.val a ⊢ wp frame (wpE (defs₀ (F := F)) 𝒱₀ (tV d L) none) Set.univ
      (k0_t7_body L aV (Memref.isWhole_whole _) oV (Memref.isWhole_whole _) pV (Memref.isWhole_whole _) qV (Memref.isWhole_whole _) cc0_scoped0 cc0_scoped1 v1 (iota .scVector S16 32 [0] iota_S16_d0_w32_scVector) c0 c1 n k a)
      (rowInv d L g 4 (k.val + 1)) :=
  rowStep_wp d L g 4 k (row_lt k0_t7_abs.2.1 k.isLt) 64#32 rfl a (k0_off11 a) (k0_off12 k) (k0_chk5 a) (k0_chk5.dec a) (k0_off11_inb a)
    (k0_off12_inb k) (k0_pay8 (iota .scVector S16 32 [0] iota_S16_d0_w32_scVector) k) _ (fun h => h) rfl ((k0_off12_eq k).trans (congrArg (fun n => ![n]) (by omega))) rfl rfl

theorem row5 (g : Buf (Elt F) ((tV d L).loc cc0_scratch0)) (v1 c0 c1 : BitVec 32) (n : Fin k0_t2_loop.trips) (k : Fin k0_t8_loop.trips) (a : BitVec 32) :
    rowInv d L g 5 k.val a ⊢ wp frame (wpE (defs₀ (F := F)) 𝒱₀ (tV d L) none) Set.univ
      (k0_t8_body L aV (Memref.isWhole_whole _) oV (Memref.isWhole_whole _) pV (Memref.isWhole_whole _) qV (Memref.isWhole_whole _) cc0_scoped0 cc0_scoped1 v1 (iota .scVector S16 32 [0] iota_S16_d0_w32_scVector) c0 c1 n k a)
      (rowInv d L g 5 (k.val + 1)) :=
  rowStep_wp d L g 5 k (row_lt k0_t8_abs.2.1 k.isLt) 80#32 rfl a (k0_off13 a) (k0_off14 k) (k0_chk6 a) (k0_chk6.dec a) (k0_off13_inb a)
    (k0_off14_inb k) (k0_pay9 (iota .scVector S16 32 [0] iota_S16_d0_w32_scVector) k) _ (fun h => h) rfl ((k0_off14_eq k).trans (congrArg (fun n => ![n]) (by omega))) rfl rfl

theorem row6 (g : Buf (Elt F) ((tV d L).loc cc0_scratch0)) (k : Fin k0_t9_loop.trips) (a : BitVec 32) :
    rowInv d L g 6 k.val a ⊢ wp frame (wpE (defs₀ (F := F)) 𝒱₀ (tV d L) none) Set.univ
      (k0_t9_body L aV (Memref.isWhole_whole _) oV (Memref.isWhole_whole _) pV (Memref.isWhole_whole _) qV (Memref.isWhole_whole _) cc0_scoped0 cc0_scoped1 k a)
      (rowInv d L g 6 (k.val + 1)) :=
  rowStep_wp d L g 6 k (row_lt k0_t9_abs.2.1 k.isLt) 96#32 rfl a (k0_off15 a) (k0_off16 k) (k0_chk7 a) (k0_chk7.dec a) (k0_off15_inb a)
    (k0_off16_inb k) (k0_pay2 k) _ (fun h => h) rfl ((k0_off16_eq k).trans (congrArg (fun n => ![n]) (by omega))) rfl rfl

theorem row7 (g : Buf (Elt F) ((tV d L).loc cc0_scratch0)) (k : Fin k0_t10_loop.trips) (a : BitVec 32) :
    rowInv d L g 7 k.val a ⊢ wp frame (wpE (defs₀ (F := F)) 𝒱₀ (tV d L) none) Set.univ
      (k0_t10_body L aV (Memref.isWhole_whole _) oV (Memref.isWhole_whole _) pV (Memref.isWhole_whole _) qV (Memref.isWhole_whole _) cc0_scoped0 cc0_scoped1 k a)
      (rowInv d L g 7 (k.val + 1)) :=
  rowStep_wp d L g 7 k (row_lt k0_t10_abs.2.1 k.isLt) 112#32 rfl a (k0_off17 a) (k0_off18 k) (k0_chk8 a) (k0_chk8.dec a) (k0_off17_inb a)
    (k0_off18_inb k) (k0_pay3 k) _ (fun h => h) rfl ((k0_off18_eq k).trans (congrArg (fun n => ![n]) (by omega))) rfl rfl

end Loops

end Cert.Proof.KernelIdeal

end
-- ==== Proof.KernelIdeal.Body.lean ====
/-
  A tile's run: its square zeroed, then each of its thirty-two packed rows copied in, unpacked, and copied out.
-/
module

public import proofs.«01_k».proof.Proof.KernelIdeal.Loops
public import proofs.«01_k».proof.Proof.Grid

@[expose] public section

noncomputable section

namespace Cert.Proof.KernelIdeal

open Cert.KernelIdeal Cert.KernelIdeal.Gen Cert.Proof.Tri

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Values

variable [FloatOps F] (x : S1024x8256.Idx → F .f32) (o : S1024x16384.Idx → F .f32)

/-- The table of squares the tiles write: row `b` is the square of packed row `b`, row-major. -/
def squares (j : S1024x16384.Idx) : F .f32 :=
  entry onDiag zed (at2 (M := 1024) (N := 8256) x (j 0).val) ((j 1).val / 128) ((j 1).val % 128)

/-- The table while the rows before `b` are written. -/
def written (b : ℕ) (j : S1024x16384.Idx) : F .f32 := if (j 0).val < b then squares x j else o j

/-- The rows of the table that task `w` writes. -/
def taskRows (w : ℕ) : Finset S1024x16384.Idx := Finset.univ.filter fun j => (j 0).val / 32 = w

theorem mem_taskRows {w : ℕ} {j : S1024x16384.Idx} : j ∈ taskRows w ↔ (j 0).val / 32 = w := by simp [taskRows]

end Values

section Zero

variable [FloatOps F] (d : Dev nD) (L : grid0.Coords)

/-- The square's first `16 t` entries are `zed`. -/
def zeroInv (t : ℕ) (_ : BitVec 32) : sProp 𝕄 :=
  iprop(∃ h : Buf (Elt F) ((tV d L).loc cc0_scratch1), ⌜∀ p, p < 16384 → p < 16 * t → nth (N := 16384) h p = zed⌝
      ∗ ((qV).view.loc (tV d L) ↦{fullShare} h))

theorem pay1_nth (l : ℕ) : nth (N := 16) (k0_pay1 (F := F)) l = zed := rfl

theorem zero_wp (k : Fin k0_t1_loop.trips) (a : BitVec 32) :
    zeroInv d L k.val a ⊢ wp frame (wpE (defs₀ (F := F)) 𝒱₀ (tV d L) none) Set.univ
      (k0_t1_body L aV (Memref.isWhole_whole _) oV (Memref.isWhole_whole _) pV (Memref.isWhole_whole _) qV (Memref.isWhole_whole _)
        cc0_scoped0 cc0_scoped1 k a) (zeroInv d L (k.val + 1)) := by
  unfold zeroInv
  iintro ⟨%h, %hz, Hq⟩
  unfold k0_t1_body
  sl_exec
  sl_step
  have hfill : ∀ p, p < 16384 → p < 16 * (k.val + 1) → nth (N := 16384) ((qV).view.writes (Elt F) h
      [⟨Rect.unit (s := S16384) (k0_off1 k) S16.size (k0_off1_inb k), k0_pay1⟩]) p = zed := by
    intro p hp hlt
    rw [View.writes_singleton]
    by_cases hin : 16 * k.val ≤ p
    · obtain ⟨l, rfl⟩ := Nat.exists_eq_add_of_le hin
      exact (nth_write_in (n := 16) (qV).view h (k0_off1_eq k) (k0_off1_inb k) _ (show l < 16 by omega)).trans (pay1_nth l)
    · exact (nth_write_out (n := 16) (qV).view h (k0_off1_eq k) (k0_off1_inb k) _ hp (by omega)).trans (hz p hp (by omega))
  iexists _
  isplitr
  · ipureintro; exact hfill
  iexact Hq

end Zero

section Task

variable [FloatOps F] (d : Dev nD) (L : grid0.Coords)

/-- The task a tile is: two to a subcore number. -/
abbrev taskOf (L : grid0.Coords) : ℕ := 2 * (L 1).val + (L 0).val

variable (x : Buf (Elt F) ((tV d L).loc main_arg0_scv)) (o : Buf (Elt F) ((tV d L).loc main_v0_scv)) (q : PosShare TreeShare)
  (O : CellTallies nD τ sig (HIx 1)) (W : Waits sig (HIx 1))

/-- Before the task's matrix `k`: its share of the packed table, its rows of the squares' table with `k` of them
    written, its two buffers, its two semaphores at rest. -/
def taskInv (k : ℕ) (_ : BitVec 32) : sProp 𝕄 :=
  iprop(Transfers.MayWaits (tV d L) (default : HIx 1) O
    ∗ ((aV).view.loc (tV d L) ↦{q} x)
    ∗ ((oV).view.loc (tV d L) ↦[taskRows (taskOf L)]{fullShare} written x o (32 * taskOf L + k))
    ∗ (∃ g, (pV).view.loc (tV d L) ↦{fullShare} g)
    ∗ (∃ h : Buf (Elt F) ((tV d L).loc cc0_scratch1), ⌜∀ y, Filled onDiag zed y (nth (N := 16384) h) 0 0⌝ ∗ ((qV).view.loc (tV d L) ↦{fullShare} h))
    ∗ semVal (tV d L, SemLoc.dma cc0_scoped0.sem) 0 ∗ semVal (tV d L, SemLoc.dma cc0_scoped1.sem) 0
    ∗ ∃ W', ⌜∀ p ∈ W', p ∈ W ∨ p.2 = none⌝ ∗ owes (tV d L) O W')

/-- The row of the squares' table a task's matrix `k` goes to, as the task addresses it. -/
abbrev outRow (L : grid0.Coords) (k : Fin k0_t2_loop.trips) : Memref sig .scVector .hbm S16384 .f32 :=
  ((oV).slice (Rect.unit (s := S1024x16384) (k0_off19 L k) S1x16384.size (k0_off19_inb L k)) (fun _ => rfl)).squeeze S16384 squeezes_S1x16384_S16384

theorem outRow_view (k : Fin k0_t2_loop.trips) :
    (outRow L k).view = rowView (oV).view (k0_off19 L k) (k0_off19_inb L k) squeezes_S1x16384_S16384.numel_eq := rfl

/-- The packed row a task's matrix `k` comes from. -/
abbrev inRow (L : grid0.Coords) (k : Fin k0_t2_loop.trips) : Memref sig .scVector .hbm S8256 .f32 :=
  ((aV).slice (Rect.unit (s := S1024x8256) (k0_off2 L k) S1x8256.size (k0_off2_inb L k)) (fun _ => rfl)).squeeze S8256 squeezes_S1x8256_S8256

theorem row_number (k : Fin k0_t2_loop.trips) : 64 * (L 1).val + 32 * (L 0).val + k.val = 32 * taskOf L + k.val ∧ k.val < 32 :=
  ⟨by unfold taskOf; omega, Nat.lt_of_lt_of_le k.isLt k0_t2_abs.2.1⟩

/-- What the copy in leaves in the packed buffer is row `32 w + k` of the packed table. -/
theorem inRow_read (k : Fin k0_t2_loop.trips) (g : Buf (Elt F) ((tV d L).loc cc0_scratch0)) {n : ℕ} (hn : n < 8256) :
    nth (N := 8256) (View.write (Elt F) (pV).view g ((inRow L k).view.read (Elt F) x) Finset.univ) n
      = at2 (M := 1024) (N := 8256) x (32 * taskOf L + k.val) n := by
  rw [← (row_number L k).1]
  refine (congrArg (fun f => nth (N := 8256) f n) (View.write_whole_univ (cc0_scratch0 : Ref sig .scVector) g _)).trans ?_
  exact rowView_read (aV).view x (k0_off2_eq L k) (k0_off2_inb L k) squeezes_S1x8256_S8256.numel_eq hn

/-- The row copied out is the table's row `32 w + k`. -/
theorem outRow_mem (k : Fin k0_t2_loop.trips) (j : S1024x16384.Idx) : j ∈ (outRow L k).view.set ↔ (j 0).val = 32 * taskOf L + k.val := by
  rw [← (row_number L k).1]
  exact rowView_mem (oV).view (k0_off19_eq L k) (k0_off19_inb L k) squeezes_S1x16384_S16384.numel_eq j

/-- It lies among the task's rows. -/
theorem outRow_subset (k : Fin k0_t2_loop.trips) : (outRow L k).view.set ⊆ taskRows (taskOf L) := by
  intro j hj
  have h := (outRow_mem L k j).mp hj
  have hk := (row_number L k).2
  rw [mem_taskRows]
  omega

/-- The row copied out, the square whole, is as `written` has it one row further. -/
theorem outRow_write (k : Fin k0_t2_loop.trips) (f : S1024x16384.Idx → F .f32) (h : Buf (Elt F) ((tV d L).loc cc0_scratch1))
    (hf : Filled onDiag zed (at2 (M := 1024) (N := 8256) x (32 * taskOf L + k.val)) (nth (N := 16384) h) 8 0) :
    ∀ j ∈ (outRow L k).view.set, View.write (Elt F) (outRow L k).view f ((qV).view.read (Elt F) h) Finset.univ j
      = written x o (32 * taskOf L + (k.val + 1)) j := by
  intro j hj
  have hr := (outRow_mem L k j).mp hj
  have hl : (j 1).val < 16384 := (j 1).isLt
  have e := rowView_write (M := 1024) (N := 16384) (Val := Elt F) (oV).view f ((qV).view.read (Elt F) h) (k0_off19_eq L k) (k0_off19_inb L k)
    squeezes_S1x16384_S16384.numel_eq j (hr.trans (row_number L k).1.symm)
  refine Eq.trans (b := nth (N := 16384) h (j 1).val) e ?_
  rw [written, if_pos (by omega), squares, hr, ← filled_full hf hl]

/-- Every other of the task's rows is unchanged by one matrix more. -/
theorem written_rest (k : Fin k0_t2_loop.trips) :
    ∀ j ∈ taskRows (taskOf L) \ (outRow L k).view.set, written x o (32 * taskOf L + k.val) j = written x o (32 * taskOf L + (k.val + 1)) j := by
  intro j hj
  have hne := mt (outRow_mem L k j).mpr (Finset.mem_sdiff.mp hj).2
  unfold written
  by_cases hlt : (j 0).val < 32 * taskOf L + k.val
  · rw [if_pos hlt, if_pos (by omega)]
  · rw [if_neg hlt, if_neg (by omega)]

theorem matrix_wp (v1 : BitVec 32) (k : Fin k0_t2_loop.trips) (a : BitVec 32) :
    taskInv d L x o q O W k.val a ⊢ wp frame (wpE (defs₀ (F := F)) 𝒱₀ (tV d L) none) Set.univ
      (k0_t2_body L aV (Memref.isWhole_whole _) oV (Memref.isWhole_whole _) pV (Memref.isWhole_whole _) qV (Memref.isWhole_whole _)
        cc0_scoped0 cc0_scoped1 v1 (iota .scVector S16 32 [0] iota_S16_d0_w32_scVector) k a) (taskInv d L x o q O W (k.val + 1)) := by
  unfold taskInv
  iintro ⟨Hmw, Ha, Ho, ⟨%g, Hp⟩, ⟨%h, %hh, Hq⟩, HsA, HsB, %W', %hW', HO⟩
  unfold k0_t2_body
  rw [k0_part1_eq_skeleton]
  unfold k0_part1_skel
  sl_exec (disch := exact View.amount_pos _ _ (show 0 < S8256.numel by decide))
  generalize hG : View.write (Elt F) (pV).view g (matrix_wp.sl.dma0 d L x k) Finset.univ = G
  have hGx : ∀ n, n < 8256 → nth (N := 8256) G n = at2 (M := 1024) (N := 8256) x (32 * taskOf L + k.val) n :=
    fun n hn => hG ▸ inRow_read d L x k g hn
  simp only [bind_assoc]
  iapply (rowLoop d L G 0 _ _ _ _ (by decide) (by decide) (row0 d L G v1 _ _ k)) $$ [Hp Hq]
  · unfold square
    iexists h
    isplitr
    · ipureintro; exact hh _
    isplitl [Hp]; · iexact Hp
    iexact Hq
  iintro %_ Hs
  iapply (rowLoop d L G 1 _ _ _ _ (by decide) (by decide) (row1 d L G v1 _ _ k)) $$ [Hs]
  · iexact Hs
  iintro %_ Hs
  iapply (rowLoop d L G 2 _ _ _ _ (by decide) (by decide) (row2 d L G v1 _ _ k)) $$ [Hs]
  · iexact Hs
  iintro %_ Hs
  iapply (rowLoop d L G 3 _ _ _ _ (by decide) (by decide) (row3 d L G v1 _ _ k)) $$ [Hs]
  · iexact Hs
  iintro %_ Hs
  iapply (rowLoop d L G 4 _ _ _ _ (by decide) (by decide) (row4 d L G v1 _ _ k)) $$ [Hs]
  · iexact Hs
  iintro %_ Hs
  iapply (rowLoop d L G 5 _ _ _ _ (by decide) (by decide) (row5 d L G v1 _ _ k)) $$ [Hs]
  · iexact Hs
  iintro %_ Hs
  simp only [pure_bind]
  iapply (rowLoop d L G 6 _ _ _ _ (by decide) (by decide) (row6 d L G)) $$ [Hs]
  · iexact Hs
  iintro %_ Hs
  iapply (rowLoop d L G 7 _ _ _ _ (by decide) (by decide) (row7 d L G)) $$ [Hs]
  · iexact Hs
  iintro %_ Hs
  unfold square
  icases Hs with ⟨%h8, %hf8, Hp, Hq⟩
  ihave Hsp := (pointsTo_split_subset (ℓ := (oV).view.loc (tV d L)) (q := fullShare) (f := written x o (32 * taskOf L + k.val)) (S := taskRows (taskOf L)) (outRow_subset L k)).1 $$ Ho
  icases Hsp with ⟨Hrow, Hrest⟩
  ihave Hrow' := (Entails.of_eq (show ((oV).view.loc (tV d L) ↦[(outRow L k).view.set]{fullShare} written x o (32 * taskOf L + k.val) : sProp 𝕄)
      = (outRow L k).view.loc (tV d L) ↦[(outRow L k).view.set]{fullShare} written x o (32 * taskOf L + k.val) from rfl)) $$ Hrow
  sl_exec (disch := exact View.amount_pos _ _ (show 0 < S16384.numel by decide))
  sl_step
  have hf8' : Filled onDiag zed (at2 (M := 1024) (N := 8256) x (32 * taskOf L + k.val)) (nth (N := 16384) h8) 8 0 := filled_congr hGx hf8
  have hrow : ∀ j ∈ (outRow L k).view.set, (outRow L k).view.writes (Elt F) (written x o (32 * taskOf L + k.val))
      [⟨Rect.whole S16384, matrix_wp.sl.dma0_1 d L h8⟩] j = written x o (32 * taskOf L + (k.val + 1)) j := by
    rw [writes_all, show matrix_wp.sl.dma0_1 d L h8 = (qV).view.read (Elt F) h8 from rfl]
    exact outRow_write d L x o k _ h8 hf8'
  ihave Hrow := (Entails.of_eq (pointsTo_congr (Ix := HIx 1) (Name := ℕ) (U := UU) (Lvl := ℕ) (ℓ := (outRow L k).view.loc (tV d L)) (q := fullShare) hrow)) $$ Hrow'
  ihave Hrest' := (Entails.of_eq (pointsTo_congr (Ix := HIx 1) (Name := ℕ) (U := UU) (Lvl := ℕ) (ℓ := (oV).view.loc (tV d L)) (q := fullShare) (written_rest d L x o k))) $$ Hrest
  ihave Ho := (pointsTo_split_subset (ℓ := (oV).view.loc (tV d L)) (q := fullShare) (f := written x o (32 * taskOf L + (k.val + 1))) (S := taskRows (taskOf L)) (outRow_subset L k)).2 $$ [Hrow Hrest']
  · isplitl [Hrow] <;> iassumption
  isplitl [Hmw]; · iexact Hmw
  isplitl [Ha]; · iexact Ha
  isplitl [Ho]; · iexact Ho
  isplitl [Hp]; · iexists _; iexact Hp
  isplitl [Hq]
  · iexists h8
    isplitr
    · ipureintro; exact fun y => filled_again hf8
    iexact Hq
  isplitl [HsA]; · iexact HsA
  isplitl [HsB]; · iexact HsB
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

end Task

end Cert.Proof.KernelIdeal

end
-- ==== Proof.KernelIdeal.Task.lean ====
/-
  The whole run: what the call hands each core and each tile, a tile's task under the launch, and the program's end.
-/
module

public import proofs.«01_k».proof.Proof.KernelIdeal.Body
public import Idealize.ShloMosaic.Lib.ShareLeaves

@[expose] public section

noncomputable section

namespace Cert.Proof.KernelIdeal

open Cert.KernelIdeal Cert.KernelIdeal.Gen Cert.Proof.Tri

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)
open Idealize.ShloMosaic.StableHlo (held wp_hlo_within)
open Idealize.ShloMosaic.Tactic

variable {F : FTy → Type}

local notation "𝕄" => MT nD τ sig (HIx 1) (Elt F) ℕ UU ℕ

/-! ## The program as the launch sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱 : Variants := 𝒱₀.lift
abbrev v₀ : 𝒱.V := Sum.inl none
abbrev EH : Emb UH (MT nD τ sig (HIx 1) (Elt F) ℕ UU ℕ) := embL

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (m : (ℓ : Loc nD τ sig) → Buf (Elt F) ℓ) (ρ : Dev nD → PrngReg)

abbrev aLoc (d : Dev nD) : Loc nD τ sig := (SparseCore.T d).loc main_arg0
abbrev oLoc (d : Dev nD) : Loc nD τ sig := (SparseCore.T d).loc main_v0
abbrev rLoc (d : Dev nD) : Loc nD τ sig := (SparseCore.T d).loc main_v1

/-! ## How the two tables are dealt -/

/-- The rows of the squares' table that core `c`'s tasks write. -/
def coreRows (c : ℕ) : Finset S1024x16384.Idx := Finset.univ.filter fun j => (j 0).val / 32 % 2 = c

theorem mem_coreRows {c : ℕ} {j : S1024x16384.Idx} : j ∈ coreRows c ↔ (j 0).val / 32 % 2 = c := by simp [coreRows]

/-- The two cores' rows are all of them, -/
theorem pts_cores (d : Dev nD) (f : Buf (Elt F) (oLoc d)) :
    (oLoc d ↦{fullShare} f : sProp 𝕄) = bigSep Finset.univ fun c : Fin 2 => oLoc d ↦[coreRows c.val]{fullShare} f := by
  rw [← pointsTo_biUnion Finset.univ (ℓ := oLoc d) (fun c : Fin 2 => coreRows c.val)
    (fun a _ b _ h => Finset.disjoint_left.mpr fun j ha hb => h (Fin.ext ((mem_coreRows.mp ha).symm.trans (mem_coreRows.mp hb)))),
    show Finset.univ.biUnion (fun c : Fin 2 => coreRows c.val) = Finset.univ from
      Finset.eq_univ_of_forall fun j => Finset.mem_biUnion.mpr ⟨⟨(j 0).val / 32 % 2, Nat.mod_lt _ (by decide)⟩, Finset.mem_univ _, mem_coreRows.mpr rfl⟩]
  try rfl

/-- and a core's rows are its sixteen tasks'. -/
theorem coreRows_eq (c : Fin 2) : coreRows c.val = Finset.univ.biUnion fun i : Fin 16 => taskRows (2 * i.val + c.val) := by
  refine Finset.ext fun j => ?_
  have hj : (j 0).val < 1024 := (j 0).isLt
  have hc := c.isLt
  rw [mem_coreRows, Finset.mem_biUnion]
  constructor
  · intro h
    exact ⟨⟨(j 0).val / 64, by omega⟩, Finset.mem_univ _, mem_taskRows.mpr (by show _ = 2 * ((j 0).val / 64) + c.val; omega)⟩
  · rintro ⟨i, -, hi⟩
    have := mem_taskRows.mp hi
    omega

theorem pts_tasks (d : Dev nD) (f : Buf (Elt F) (oLoc d)) (c : Fin 2) :
    (oLoc d ↦[coreRows c.val]{fullShare} f : sProp 𝕄) = bigSep Finset.univ fun i : Fin 16 => oLoc d ↦[taskRows (2 * i.val + c.val)]{fullShare} f := by
  rw [← pointsTo_biUnion Finset.univ (ℓ := oLoc d) (fun i : Fin 16 => taskRows (2 * i.val + c.val))
    (fun a _ b _ h => Finset.disjoint_left.mpr fun j ha hb => h (Fin.ext (by
      have h1 := mem_taskRows.mp ha; have h2 := mem_taskRows.mp hb; omega))), coreRows_eq]

/-- Core `c`'s half of the packed table, and the sixteenth of it that task `i` of the core reads by. -/
abbrev coreShare (c : Fin 2) : PosShare TreeShare := leaf 1 fullShare c
abbrev taskShare (c : Fin 2) (i : Fin 16) : PosShare TreeShare := leaf 4 (coreShare c) i

theorem pts_shares (d : Dev nD) (f : Buf (Elt F) (aLoc d)) :
    (aLoc d ↦{fullShare} f : sProp 𝕄) = bigSep Finset.univ fun c : Fin 2 => aLoc d ↦{coreShare c} f :=
  pointsTo_leaves Finset.univ f 1 fullShare
theorem pts_taskShares (d : Dev nD) (f : Buf (Elt F) (aLoc d)) (c : Fin 2) :
    (aLoc d ↦{coreShare c} f : sProp 𝕄) = bigSep Finset.univ fun i : Fin 16 => aLoc d ↦{taskShare c i} f :=
  pointsTo_leaves Finset.univ f 4 (coreShare c)

variable [FloatOps F]

/-- The squares' table of device `d`'s packed table. -/
abbrev sq (d : Dev nD) : Buf (Elt F) (oLoc d) := squares (m (aLoc d))

/-- What core `c` is handed, the squares' table at `f`; what its task `i` is. -/
abbrev corePts (d : Dev nD) (c : Fin 2) (f : Buf (Elt F) (oLoc d)) : sProp 𝕄 :=
  iprop((aLoc d ↦{coreShare c} m (aLoc d)) ∗ (oLoc d ↦[coreRows c.val]{fullShare} f))
abbrev rowsPts (d : Dev nD) (q : PosShare TreeShare) (w : ℕ) (f : Buf (Elt F) (oLoc d)) : sProp 𝕄 :=
  iprop((aLoc d ↦{q} m (aLoc d)) ∗ (oLoc d ↦[taskRows w]{fullShare} f))
abbrev taskPts (d : Dev nD) (c : Fin 2) (i : Fin 16) (f : Buf (Elt F) (oLoc d)) : sProp 𝕄 :=
  rowsPts m d (taskShare c i) (2 * i.val + c.val) f

/-- A core's part is its sixteen tasks' parts. -/
theorem corePts_eq (d : Dev nD) (c : Fin 2) (f : Buf (Elt F) (oLoc d)) :
    (corePts m d c f : sProp 𝕄) = bigSep Finset.univ fun i : Fin 16 => taskPts m d c i f := by
  unfold corePts taskPts rowsPts
  rw [bigSep_sep', pts_taskShares, pts_tasks]

/-- Every core and every task takes its part with the squares' table as launched and brings it back with the squares. -/
def P : (K (F := F)).Pay (nD := nD) (Val := Elt F) (Name := ℕ) (U := UU) where
  st := fun q d c => match q with | 0 => corePts m d (Fin.cast nCore_zero c) (m (oLoc d))
  dn := fun q d c => match q with | 0 => corePts m d (Fin.cast nCore_zero c) (sq m d)
  go := fun q d c i => match q with | 0 => taskPts m d (Fin.cast nCore_zero c) (Fin.cast nSub_zero i) (m (oLoc d))
  td := fun q d c i => match q with | 0 => taskPts m d (Fin.cast nCore_zero c) (Fin.cast nSub_zero i) (sq m d)
  x := fun _ _ => iprop(emp)

instance P_storable : (P (F := F) m).IsStorable where
  st q d c := match q with | 0 => (inferInstance : BI.Storable (upEmb : UEmb _ 𝕄) (corePts m d (Fin.cast nCore_zero c) (m (oLoc d))))
  dn q d c := match q with | 0 => (inferInstance : BI.Storable (upEmb : UEmb _ 𝕄) (corePts m d (Fin.cast nCore_zero c) (sq m d)))
  go q d c i := match q with
    | 0 => (inferInstance : BI.Storable (upEmb : UEmb _ 𝕄) (taskPts m d (Fin.cast nCore_zero c) (Fin.cast nSub_zero i) (m (oLoc d))))
  td q d c i := match q with
    | 0 => (inferInstance : BI.Storable (upEmb : UEmb _ 𝕄) (taskPts m d (Fin.cast nCore_zero c) (Fin.cast nSub_zero i) (sq m d)))

/-! ## The task -/

section Tile

variable (d : Dev nD) (L : grid0.Coords)

abbrev inCell (d : Dev nD) (L : grid0.Coords) : GSem nD τ sig := (tV d L, .dma cc0_scoped0.sem)
abbrev outCell (d : Dev nD) (L : grid0.Coords) : GSem nD τ sig := (tV d L, .dma cc0_scoped1.sem)

omit [FloatOps F] in
/-- The tile's own semaphores are the two the copies signal and the rest. -/
theorem ownSems0_V :
    (ownSems0 (tV d L) : sProp 𝕄)
      = iprop(semVal (inCell d L) 0 ∗ semVal (outCell d L) 0
          ∗ bigSep (((ownCells (tV d L)).erase (inCell d L)).erase (outCell d L)) fun g => semVal g 0) := by
  unfold SparseCore.Cfg.ownSems0
  rw [SparseCore.bigSep_erase' ((mem_ownCells (g := inCell d L)).mpr ⟨rfl, by
      show (SemLoc.dma cc0_scoped0.sem : SemLoc sig).isScoped .scVector = true; decide⟩),
    SparseCore.bigSep_erase' (Finset.mem_erase.mpr ⟨by simp [inCell, outCell]; decide, (mem_ownCells (g := outCell d L)).mpr ⟨rfl, by
      show (SemLoc.dma cc0_scoped1.sem : SemLoc sig).isScoped .scVector = true; decide⟩⟩)]

omit [FloatOps F] in
/-- The tile's own buffers are the packed row's, the square's and the rest. -/
theorem ownBufs_V :
    (ownBufs (tV d L) : sProp 𝕄)
      = iprop((∃ f, (tV d L).loc cc0_scratch0 ↦{fullShare} f) ∗ (∃ f, (tV d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- With none of its matrices written the task's rows are as launched; with all thirty-two they are the squares. -/
theorem written_none (x : S1024x8256.Idx → F .f32) (o : S1024x16384.Idx → F .f32) (w : ℕ) :
    ∀ j ∈ taskRows w, written x o (32 * w + 0) j = o j := fun j hj => by
  have h := mem_taskRows.mp hj
  rw [written, if_neg (by omega)]
theorem written_all (x : S1024x8256.Idx → F .f32) (o : S1024x16384.Idx → F .f32) (w n : ℕ) (hn : n = 32) :
    ∀ j ∈ taskRows w, written x o (32 * w + n) j = squares x j := fun j hj => by
  have h := mem_taskRows.mp hj
  rw [written, if_pos (by omega)]

/-- The task on one tile: its rows of the squares' table go from the launch's to the squares. -/
theorem tile_body (hF : (K (F := F)).Facts) (q : PosShare TreeShare) (O : CellTallies nD τ sig (HIx 1)) (W : Waits sig (HIx 1)) (hO : ∀ g, O g none = 0) :
    iprop(levAts (K (F := F)).L (K (F := F)).lev ∗ emp
        ∗ rowsPts m d q (taskOf L) (m (oLoc d))
        ∗ scopedBufs (tV d L) ∗ scopedSems0 (tV d L) ∗ owes (tV d L) O W)
      ⊢ wp frame (wpE (defs₀ (F := F)) 𝒱₀ (tV d L) none) Set.univ
          (cc0__tril_assemble L aV (Memref.isWhole_whole _) oV (Memref.isWhole_whole _) pV (Memref.isWhole_whole _) qV (Memref.isWhole_whole _) cc0_scoped0 cc0_scoped1)
          fun _ => iprop(rowsPts m d q (taskOf L) (sq m d)
            ∗ scopedBufs (tV d L) ∗ scopedSems0 (tV d L)
            ∗ ∃ W', ⌜∀ p ∈ W', p ∈ W ∨ p.2 = none⌝ ∗ owes (tV d L) O W') := by
  simp only [cc0__tril_assemble_eq_skeleton]; unfold cc0__tril_assemble_skel
  rw [(K (F := F)).scopedBufs_V hF d (cV L) (jV L), SparseCore.Cfg.scopedSems0_V (Val := Elt F) d (cV L) (jV L), ownSems0_V, ownBufs_V]
  iintro ⟨#Hlv, -, ⟨Ha, Ho⟩, ⟨⟨%g, Hp⟩, ⟨%h, Hq⟩, Hbufs⟩, ⟨HsA, HsB, Hsems⟩, HO⟩
  ihave Hmw := (show levAts (K (F := F)).L (K (F := F)).lev ⊢ Transfers.MayWaits (tV d L) (default : HIx 1) O from
    (K (F := F)).mayWaits_none (thr := tV d L) hO) $$ Hlv
  sl_exec
  sl_for (zeroInv d L) $$ [Hq]
  case region =>
    intro k a
    exact zero_wp d L k a
  · unfold zeroInv
    iexists h
    isplitr
    · ipureintro; intro p _ hp; omega
    iexact Hq
  iintro %_ Hz
  unfold zeroInv
  icases Hz with ⟨%h0, %hz, Hq⟩
  have hz' : ∀ p, p < 16384 → nth (N := 16384) h0 p = zed := fun p hp =>
    hz p hp (show p < 16 * k0_t1_loop.trips from (show k0_t1_loop.trips = 1024 by decide) ▸ hp)
  ihave Ho' := (Entails.of_eq (pointsTo_congr (Ix := HIx 1) (Name := ℕ) (U := UU) (Lvl := ℕ) (ℓ := oLoc d) (q := fullShare)
    (written_none (m (aLoc d)) (m (oLoc d)) (taskOf L))).symm) $$ Ho
  sl_for (taskInv d L (m (aLoc d)) (m (oLoc d)) q O W) $$ [Hmw Ha Ho' Hp Hq HsA HsB HO]
  case region =>
    intro k a
    exact matrix_wp d L (m (aLoc d)) (m (oLoc d)) q O W _ k a
  · unfold taskInv
    isplitl [Hmw]; · iexact Hmw
    isplitl [Ha]; · iexact Ha
    isplitl [Ho']; · iexact Ho'
    isplitl [Hp]; · iexists _; iexact Hp
    isplitl [Hq]
    · iexists h0
      isplitr
      · ipureintro; exact fun _ => filled_zero hz'
      iexact Hq
    isplitl [HsA]; · iexact HsA
    isplitl [HsB]; · iexact HsB
    iexists W; isplitr
    · ipureintro; exact fun p hp => .inl hp
    iexact HO
  iintro %_ HI
  unfold taskInv
  icases HI with ⟨-, Ha, Ho, ⟨%g', Hp⟩, ⟨%h', -, Hq⟩, HsA, HsB, %W', %hW', HO⟩
  ihave Ho' := (Entails.of_eq (pointsTo_congr (Ix := HIx 1) (Name := ℕ) (U := UU) (Lvl := ℕ) (ℓ := oLoc d) (q := fullShare)
    (written_all (m (aLoc d)) (m (oLoc d)) (taskOf L) k0_t2_loop.trips (by decide)))) $$ Ho
  sl_step
  isplitl [Ha Ho']
  · isplitl [Ha]; · iexact Ha
    iexact Ho'
  isplitl [Hp Hq Hbufs]
  · isplitl [Hp]; · iexists _; iexact Hp
    isplitl [Hq]; · iexists _; iexact Hq
    iexact Hbufs
  isplitl [HsA HsB Hsems]
  · isplitl [HsA]; · iexact HsA
    isplitl [HsB]; · iexact HsB
    iexact Hsems
  iexists W'; isplitr
  · ipureintro; exact hW'
  iexact HO

end Tile

end Cert.Proof.KernelIdeal

end
-- ==== Proof.KernelIdeal.Launch.lean ====
/-
  The program run to its end: the call's two cores from the whole tables and back, then the table reshaped to squares.
-/
module

public import proofs.«01_k».proof.Proof.KernelIdeal.Task

@[expose] public section

noncomputable section

namespace Cert.Proof.KernelIdeal

open Cert.KernelIdeal Cert.KernelIdeal.Gen Cert.Proof.Tri

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)
open Idealize.ShloMosaic.StableHlo (held wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The tiles under the launch -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__tril_assemble (coordsV c s)
          aV (Memref.isWhole_whole _) oV (Memref.isWhole_whole _) pV (Memref.isWhole_whole _) qV (Memref.isWhole_whole _) cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile runs its task as the launch asks. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF (taskShare (Fin.cast nCore_zero c) (Fin.cast nSub_zero i)) O W hO).trans
    (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A core deals its part to its tasks and joins what they bring back. -/
theorem vecSplit : (K (F := F)).VecSplit' (P m) 0 := by
  intro d c
  show (corePts m d (Fin.cast nCore_zero c) (m (oLoc d)) : sProp 𝕄) ⊢ |={Set.univ}=> iprop(
      (bigSep Finset.univ fun i : Fin ((K (F := F)).nSub 0) => taskPts m d (Fin.cast nCore_zero c) (Fin.cast nSub_zero i) (m (oLoc d)))
      ∗ ((bigSep Finset.univ fun i : Fin ((K (F := F)).nSub 0) => taskPts m d (Fin.cast nCore_zero c) (Fin.cast nSub_zero i) (sq m d))
          -∗ corePts m d (Fin.cast nCore_zero c) (sq m d)))
  rw [bigSep_tasks (F := F) (fun i => taskPts m d (Fin.cast nCore_zero c) i (m (oLoc d))),
    bigSep_tasks (F := F) (fun i => taskPts m d (Fin.cast nCore_zero c) i (sq m d)), corePts_eq, corePts_eq]
  iintro H; imodintro
  isplitl [H]; · iexact H
  iintro H; iexact H

/-! ## The launch's own state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The main program -/

abbrev a' : DevRef τ sig := Proc.devRef .tc (main_arg0 : Ref sig .tc)
abbrev o' : DevRef τ sig := Proc.devRef .tc (main_v0 : Ref sig .tc)
abbrev r' : DevRef τ sig := Proc.devRef .tc (main_v1 : Ref sig .tc)
abbrev opSquare : HloOp τ sig (Elt F) :=
  StableHlo.reshape main_v0 main_v1 (rfl : (.f32 : EltTy) = .f32) shapeCasts_S1024x16384_S1024x128x128

/-- The two arrays the reshape works on. -/
abbrev S2 : Finset (DevRef τ sig) := {o', r'}

omit [FloatOps F] in
theorem held_S2 (d : Dev nD) (W : Valuation τ sig (Elt F)) :
    (held (T d) S2 W : sProp 𝕄) = iprop((oLoc d ↦{fullShare} W o') ∗ (rLoc d ↦{fullShare} W r')) := by
  unfold held S2
  rw [SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (oLoc d ↦{fullShare} W main_v0) ∗ rLoc d ↦{fullShare} W main_v1) := by
  unfold unscopedBufs
  rw [show (Finset.univ.filter fun b : Ref sig .tc => ¬ b.isScoped) = {main_arg0, main_v0, main_v1} by decide,
    SparseCore.bigSep_insert' (by decide), SparseCore.bigSep_insert' (by decide), bigSep_singleton]

/-- The arrays after the call: the squares' table written, the rest as launched. -/
def V1 (d : Dev nD) : Valuation τ sig (Elt F) := Function.update (fun b => m (d, b)) o' (sq m d)

theorem V1_o (d : Dev nD) : V1 m d o' = sq m d := Function.update_self _ _ _
theorem V1_r (d : Dev nD) : V1 m d r' = m (rLoc d) := Function.update_of_ne (show r' ≠ o' by decide) _ _

/-- The result: the squares' table's rows as 128 × 128 squares. -/
def result (d : Dev nD) : Buf (Elt F) (rLoc d) :=
  fun i => shapeCast S1024x128x128 (squares (m (aLoc d))) shapeCasts_S1024x16384_S1024x128x128 i

theorem square_r (d : Dev nD) : (opSquare (F := F)).result (V1 m d) r' = result m d := by
  rw [StableHlo.reshape_result, V1_o]
  rfl

theorem hSquare : (opSquare (F := F)).bufs ⊆ S2 := show ({o', r'} : Finset (DevRef τ sig)) ⊆ S2 by decide

/-- What the call takes for the two cores and what it hands back: the whole tables. -/
theorem cores_eq (d : Dev nD) (f : Buf (Elt F) (oLoc d)) :
    (bigSep Finset.univ fun c : Fin 2 => corePts m d c f) = (iprop((aLoc d ↦{fullShare} m (aLoc d)) ∗ (oLoc d ↦{fullShare} f)) : sProp 𝕄) := by
  unfold corePts
  rw [bigSep_sep', ← pts_shares, ← pts_cores]
theorem st0_eq (d : Dev nD) : (bigSep Finset.univ fun c : Fin ((K (F := F)).nCore 0) => (P m).st 0 d c)
    = iprop((aLoc d ↦{fullShare} m (aLoc d)) ∗ (oLoc d ↦{fullShare} m (oLoc d))) :=
  (bigSep_cores (F := F) (fun c => corePts m d c (m (oLoc d)))).trans (cores_eq m d _)
theorem dn0_eq (d : Dev nD) : (bigSep Finset.univ fun c : Fin ((K (F := F)).nCore 0) => (P m).dn 0 d c)
    = iprop((aLoc d ↦{fullShare} m (aLoc d)) ∗ (oLoc d ↦{fullShare} sq m d)) :=
  (bigSep_cores (F := F) (fun c => corePts m d c (sq m d))).trans (cores_eq m d _)

/-- What the main program leaves: the packed table as launched, the result. -/
abbrev FIN (d : Dev nD) : sProp 𝕄 := iprop((aLoc d ↦{fullShare} m (aLoc d)) ∗ (rLoc d ↦{fullShare} result m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha, Ho, Hr⟩, Hts, -⟩, -⟩
  iapply ((K (F := F)).wp_run (D (F := F)) 𝒱 (EH := EH) (P := P m) κ d 0) $$ [Hst Ha Ho Hr Hb Hts]
  isplitr; · iexact Hctx
  isplitl [Hst]; · iexact Hst
  isplitl [Ha Ho]
  · rw [st0_eq]
    isplitl [Ha]; · iexact Ha
    iexact Ho
  iintro ⟨Hst, Hdn⟩
  ihave Hdn' := (Entails.of_eq (dn0_eq m d)) $$ Hdn
  icases Hdn' with ⟨Ha, Ho⟩
  iapply (wp_hlo_within 𝒱 (SparseCore.T d) none Set.univ (op := opSquare) (S := S2) hSquare (V := V1 m d)) $$ [Hb Ho Hr]
  · isplitl [Hb]; · iexact Hb
    rw [held_S2, V1_o, V1_r]
    isplitl [Ho]; · iexact Ho
    iexact Hr
  iintro ⟨Hb, Hheld⟩
  ihave Hh := (Entails.of_eq (held_S2 (F := F) d _)) $$ Hheld
  icases Hh with ⟨-, Hr⟩
  ihave Hr' := (Entails.of_eq (show (rLoc d ↦{fullShare} (opSquare (F := F)).result (V1 m d) r' : sProp 𝕄) = rLoc d ↦{fullShare} result m d by
    rw [square_r])) $$ Hr
  rw [wp_ret]; imodintro; imodintro
  isplitl [Hst]; · iexact Hst
  isplitr [Hb Hts]
  · isplitl [Ha]; · iexact Ha
    iexact Hr'
  isplitl [Hb] <;> iassumption

/-- What the claim asks of device `d` at the end. -/
def fq (d : Dev nD) (s' : Phys nD τ sig (Elt F)) : Prop := s'.mem.mem (aLoc d) = m (aLoc d) ∧ s'.mem.mem (rLoc d) = result m d

set_option maxRecDepth 16384 in
theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := rLoc d) (I := Finset.univ) (q := fullShare) (f := result m d)) $$ [HSI Hr]
  · isplitl [HSI] <;> iassumption
  icases H with %h2
  ipureintro; exact ⟨funext fun i => h1 i (Finset.mem_univ i), funext fun i => h2 i (Finset.mem_univ i)⟩

/-! ## The program's run and its frame -/

def QC : PUnit × MemSt nD τ sig (Elt F) → Prop := fun r =>
  (∀ c : Dev nD, r.2.mem (aLoc c) = m (aLoc c) ∧ r.2.mem (rLoc c) = result m c) ∧ r.2.sem = fun _ => 0

/-- Every run ends with the packed table unchanged, the result the squares of its rows, the semaphores at rest. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.KernelIdeal

end
-- ==== Proof.Cells.lean ====
/-
  A batch of matrices in which chosen cells are written or read: the cells are named by pairs of index words, the same
  pairs for every matrix of the batch. Where such a write lands, what the batch holds afterwards, and what such a read
  gives, at any sizes.
-/
module

public import Idealize.ShloMosaic.Lib.Routing.OpsSet
public import Idealize.ShloMosaic.Lib.ValueIdxCore

@[expose] public section

namespace Cert.Proof.Cells

open Idealize.ShloMosaic Idealize.ShloMosaic.ValueIdx

variable {B R C N : ℕ}

/-- A batch of `B` matrices with `R` rows and `C` columns. -/
abbrev Stack (B R C : ℕ) : Shape := ⟨3, ![B, R, C]⟩
/-- A list of `N` pairs. -/
abbrev Pairs (N : ℕ) : Shape := ⟨2, ![N, 2]⟩
/-- For each of the `B` matrices, `N` values. -/
abbrev Vals (B N : ℕ) : Shape := ⟨2, ![B, N]⟩

/-- The write of one value per matrix and pair. -/
abbrev put (wf : ScatterDims.WF (Stack B R C) (Pairs N) (Vals B N) [0] [1, 2] [1, 2] 1) : ScatterDims (Stack B R C) (Pairs N) (Vals B N) where
  updateWindowDims := [0]
  insertedWindowDims := [1, 2]
  scatterDimsToOperandDims := [1, 2]
  indexVectorDim := 1
  wf := wf

section Put

variable (wf : ScatterDims.WF (Stack B R C) (Pairs N) (Vals B N) [0] [1, 2] [1, 2] 1) (idx : IVec (Pairs N) 32)

/-- The value of matrix `b` and pair `n` goes into matrix `b`. -/
theorem put_batch (b : Fin B) (n : Fin N) : (put wf).start (ix2 b n) idx 0 + ((put wf).window (ix2 b n) 0 : ℤ) = (b.val : ℤ) := by
  have h0 : (put wf).start (ix2 b n) idx 0 = 0 := rfl
  have h1 : (put wf).window (ix2 b n) 0 = b.val := rfl
  rw [h0, h1, zero_add]

/-- Its row is the pair's first word, -/
theorem put_row (b : Fin B) (n : Fin N) : (put wf).start (ix2 b n) idx 1 + ((put wf).window (ix2 b n) 1 : ℤ) = (idx (ix2 n 0)).toInt := by
  have h0 : (put wf).start (ix2 b n) idx 1 = (idx (ix2 n 0)).toInt := by
    refine congrArg (fun k => (idx k).toInt) (funext fun a => Fin.ext ?_)
    match a with
    | ⟨0, _⟩ => rfl
    | ⟨1, _⟩ => rfl
  have h1 : (put wf).window (ix2 b n) 1 = 0 := rfl
  rw [h0, h1, Nat.cast_zero, add_zero]

/-- and its column the pair's second word. -/
theorem put_col (b : Fin B) (n : Fin N) : (put wf).start (ix2 b n) idx 2 + ((put wf).window (ix2 b n) 2 : ℤ) = (idx (ix2 n 1)).toInt := by
  have h0 : (put wf).start (ix2 b n) idx 2 = (idx (ix2 n 1)).toInt := by
    refine congrArg (fun k => (idx k).toInt) (funext fun a => Fin.ext ?_)
    match a with
    | ⟨0, _⟩ => rfl
    | ⟨1, _⟩ => rfl
  have h1 : (put wf).window (ix2 b n) 2 = 0 := rfl
  rw [h0, h1, Nat.cast_zero, add_zero]

/-- The value of matrix `b'` and pair `n` lands in matrix `b` at row `r` and column `c` exactly when `b'` is `b` and the
    pair's words are `r` and `c`. -/
theorem put_lands (b' : Fin B) (n : Fin N) (b : Fin B) (r : Fin R) (c : Fin C) :
    (put wf).resultIdx? (ix2 b' n) idx = some (ix3 b r c)
      ↔ b' = b ∧ (idx (ix2 n 0)).toInt = (r.val : ℤ) ∧ (idx (ix2 n 1)).toInt = (c.val : ℤ) := by
  rw [Routing.resultIdx?_eq_some]
  have e0 := put_batch wf idx b' n
  have e1 := put_row wf idx b' n
  have e2 := put_col wf idx b' n
  constructor
  · intro h
    refine ⟨Fin.ext ?_, e1.symm.trans (h 1), e2.symm.trans (h 2)⟩
    have := e0.symm.trans (h 0)
    exact Int.ofNat.inj this
  · rintro ⟨rfl, h1, h2⟩ a
    match a with
    | ⟨0, _⟩ => exact e0
    | ⟨1, _⟩ => exact e1.trans h1
    | ⟨2, _⟩ => exact e2.trans h2

variable {α : Type} (x : (Stack B R C).Idx → α) (upd : (Vals B N).Idx → α)

/-- A cell whose pair is listed once holds the value written for it. -/
theorem put_hit {b : Fin B} {r : Fin R} {c : Fin C} (n : Fin N) (hr : (idx (ix2 n 0)).toInt = (r.val : ℤ)) (hc : (idx (ix2 n 1)).toInt = (c.val : ℤ))
    (huniq : ∀ n' : Fin N, (idx (ix2 n' 0)).toInt = (r.val : ℤ) → (idx (ix2 n' 1)).toInt = (c.val : ℤ) → n' = n) :
    Host.scatter (put wf) (fun _ v => v) x idx upd (ix3 b r c) = upd (ix2 b n) := by
  refine Routing.scatter_set_hit (put wf) x idx upd (ix3 b r c) _ (fun k hk => ?_) (ix2 b n) ((put_lands wf idx b n b r c).mpr ⟨rfl, hr, hc⟩)
  rw [eq_ix2 k] at hk ⊢
  obtain ⟨h0, h1, h2⟩ := (put_lands wf idx (k 0) (k 1) b r c).mp hk
  exact congrArg₂ (fun p q => upd (ix2 p q)) h0 (huniq (k 1) h1 h2)

/-- A cell whose pair is not listed keeps what it held. -/
theorem put_miss {b : Fin B} {r : Fin R} {c : Fin C}
    (h : ∀ n : Fin N, (idx (ix2 n 0)).toInt = (r.val : ℤ) → (idx (ix2 n 1)).toInt = (c.val : ℤ) → False) :
    Host.scatter (put wf) (fun _ v => v) x idx upd (ix3 b r c) = x (ix3 b r c) := by
  refine Routing.scatter_set_miss (put wf) x idx upd (ix3 b r c) (fun k hk => ?_)
  rw [eq_ix2 k] at hk
  obtain ⟨-, h1, h2⟩ := (put_lands wf idx (k 0) (k 1) b r c).mp hk
  exact h _ h1 h2

/-- A cell that held `v`, when every value written is `v`, holds `v`. -/
theorem put_same {b : Fin B} {r : Fin R} {c : Fin C} {v : α} (hx : x (ix3 b r c) = v) (hu : ∀ k, upd k = v) :
    Host.scatter (put wf) (fun _ v => v) x idx upd (ix3 b r c) = v := by
  by_cases h : ∃ k, (put wf).resultIdx? k idx = some (ix3 b r c)
  · obtain ⟨k, hk⟩ := h
    exact Routing.scatter_set_hit (put wf) x idx upd _ v (fun k _ => hu k) k hk
  · rw [Routing.scatter_set_miss (put wf) x idx upd _ fun k hk => h ⟨k, hk⟩, hx]

end Put

/-- The read of one value per matrix and pair. -/
abbrev get (wf : GatherDims.WF (Stack B R C) (Pairs N) (Vals B N) [0] [1, 2] [] [1, 2] [] 1 ![B, 1, 1]) :
    GatherDims (Stack B R C) (Pairs N) (Vals B N) where
  offsetDims := [0]
  collapsedSliceDims := [1, 2]
  operandBatchingDims := []
  startIndicesBatchingDims := []
  startIndexMap := [1, 2]
  indexVectorDim := 1
  sliceSizes := ![B, 1, 1]
  wf := wf

/-- The value read for matrix `b` and a pair with words `r` and `c` is matrix `b`'s entry at row `r` and column `c`. -/
theorem get_eq {α : Type} (wf : GatherDims.WF (Stack B R C) (Pairs N) (Vals B N) [0] [1, 2] [] [1, 2] [] 1 ![B, 1, 1])
    (x : (Stack B R C).Idx → α) (idx : IVec (Pairs N) 32) (b : Fin B) (n : Fin N) (r : Fin R) (c : Fin C)
    (hr : (idx (ix2 n 0)).toInt = (r.val : ℤ)) (hc : (idx (ix2 n 1)).toInt = (c.val : ℤ)) :
    Host.gather (get wf) x idx (ix2 b n) = x (ix3 b r c) := by
  have hR := r.isLt
  have hC := c.isLt
  refine congrArg x (funext fun a => Fin.ext ?_)
  match a with
  | ⟨0, _⟩ =>
    show 0 + 0 + b.val = b.val
    omega
  | ⟨1, _⟩ =>
    have e : (get wf).siIdx (ix2 b n) ⟨0, Nat.zero_lt_two⟩ = ix2 n 0 := funext fun a => Fin.ext (by
      match a with
      | ⟨0, _⟩ => rfl
      | ⟨1, _⟩ => rfl)
    show min (idx ((get wf).siIdx (ix2 b n) ⟨0, Nat.zero_lt_two⟩)).toInt.toNat (R - 1) + 0 + 0 = r.val
    rw [e, hr]
    omega
  | ⟨2, _⟩ =>
    have e : (get wf).siIdx (ix2 b n) ⟨1, Nat.one_lt_two⟩ = ix2 n 1 := funext fun a => Fin.ext (by
      match a with
      | ⟨0, _⟩ => rfl
      | ⟨1, _⟩ => rfl)
    show min (idx ((get wf).siIdx (ix2 b n) ⟨1, Nat.one_lt_two⟩)).toInt.toNat (C - 1) + 0 + 0 = c.val
    rw [e, hc]
    omega

end Cert.Proof.Cells
-- ==== Proof.Columns.lean ====
/-
  Two columns of words side by side, read as pairs; and small words read as numbers.
-/
module

public import proofs.«01_k».proof.Proof.Cells
public import Idealize.ShloMosaic.Lib.Pipeline.Value
public import Idealize.ShloMosaic.Lib.StableHlo.Predicate

@[expose] public section

namespace Cert.Proof.Cells

open Idealize.ShloMosaic Idealize.ShloMosaic.ValueIdx

variable {α : Type} {N : ℕ}

/-- A list of `N` words. -/
abbrev List1 (N : ℕ) : Shape := ⟨1, ![N]⟩
/-- The same as a column. -/
abbrev Col (N : ℕ) : Shape := ⟨2, ![N, 1]⟩

/-- A list stood up as a column keeps its entries. -/
theorem col_apply (h : (List1 N).BroadcastsInDim (Col N) ![0]) (f : (List1 N).Idx → α) (n : Fin N) :
    broadcastInDim (Col N) ![0] h f (ix2 n 0) = f (ix1 n) := by
  refine congrArg f (funext fun a => Fin.ext ?_)
  match a with
  | ⟨0, _⟩ =>
    have hn := n.isLt
    show Fin.val (if h1 : N = 1 then (⟨0, _⟩ : Fin N) else ⟨n.val, _⟩) = n.val
    split
    · show 0 = n.val; omega
    · rfl

/-- Of two columns side by side the first holds the first words of the pairs, -/
theorem beside_fst (h : Shape.Concatenates [Col N, Col N] (Pairs N) 1) (hf hg : (List1 N).BroadcastsInDim (Col N) ![0])
    (f g : (List1 N).Idx → α) (n : Fin N) :
    concatenate (Pairs N) 1 [⟨Col N, broadcastInDim (Col N) ![0] hf f⟩, ⟨Col N, broadcastInDim (Col N) ![0] hg g⟩] h (ix2 n 0) = f (ix1 n) := by
  refine (concatenate_pair_apply_left (t := Pairs N) (s₁ := Col N) (s₂ := Col N) 1 _ _ h (ix2 n 0) rfl (ix2 n 0) fun b => ?_).trans (col_apply hf f n)
  match b with
  | ⟨0, _⟩ => rfl
  | ⟨1, _⟩ => rfl

/-- and the second the second words. -/
theorem beside_snd (h : Shape.Concatenates [Col N, Col N] (Pairs N) 1) (hf hg : (List1 N).BroadcastsInDim (Col N) ![0])
    (f g : (List1 N).Idx → α) (n : Fin N) :
    concatenate (Pairs N) 1 [⟨Col N, broadcastInDim (Col N) ![0] hf f⟩, ⟨Col N, broadcastInDim (Col N) ![0] hg g⟩] h (ix2 n 1) = g (ix1 n) := by
  refine (concatenate_pair_apply_right (t := Pairs N) (s₁ := Col N) (s₂ := Col N) 1 _ _ h (ix2 n 1) rfl rfl (ix2 n 0) (fun b hb => ?_) rfl).trans (col_apply hg g n)
  match b with
  | ⟨0, _⟩ => rfl
  | ⟨1, _⟩ => exact absurd rfl hb

/-- A word below 128 read as a signed number is the number it spells. -/
theorem small_toInt {w : BitVec 32} (h : w.toNat < 128) : w.toInt = (w.toNat : ℤ) := by
  rw [BitVec.toInt_eq_toNat_cond, if_pos (by omega)]

end Cert.Proof.Cells
-- ==== Proof.ReferenceIdeal.Lower.lean ====
/-
  The reference's two tables of the lower triangle: for each place in the packed vector the row and the column.
-/
module

public import proofs.«01_k».proof.ReferenceIdeal
public import proofs.«01_k».proof.Proof.Tri

@[expose] public section

namespace Cert.Proof.ReferenceIdeal

open Cert.ReferenceIdeal Cert.Proof.Tri

set_option maxRecDepth 100000 in
/-- Place `128 q + t` has its column within its row, and the row's start and the column give back the place. -/
theorem lower_block : ∀ q < 65, ∀ t < 128, 128 * q + t < 8256 →
    tri (lit0t (128 * q + t)).toNat + (lit1t (128 * q + t)).toNat = 128 * q + t
      ∧ (lit1t (128 * q + t)).toNat ≤ (lit0t (128 * q + t)).toNat ∧ (lit0t (128 * q + t)).toNat < 128 := by
  decide +kernel

/-- The same for a place `n`. -/
theorem lower_place {n : ℕ} (h : n < 8256) :
    tri (lit0t n).toNat + (lit1t n).toNat = n ∧ (lit1t n).toNat ≤ (lit0t n).toNat ∧ (lit0t n).toNat < 128 := by
  have := lower_block (n / 128) (by omega) (n % 128) (by omega)
  rw [Nat.div_add_mod] at this
  exact this h

/-- The entry at row `r` and column `c` of the triangle has place `tri r + c`. -/
theorem lower_at {r c : ℕ} (hr : r < 128) (hc : c ≤ r) : (lit0t (tri r + c)).toNat = r ∧ (lit1t (tri r + c)).toNat = c := by
  have hb := tri_bound hr
  obtain ⟨h0, h1, -⟩ := lower_place (show tri r + c < 8256 by omega)
  exact place_unique h1 hc h0

end Cert.Proof.ReferenceIdeal
-- ==== Proof.ReferenceIdeal.Upper.lean ====
/-
  The reference's two tables of the strict upper triangle, and its table of the diagonal.
-/
module

public import proofs.«01_k».proof.ReferenceIdeal

@[expose] public section

namespace Cert.Proof.ReferenceIdeal

open Cert.ReferenceIdeal

set_option maxRecDepth 100000 in
/-- Entry `128 q + t` of the row table is below that of the column table, which is below 128. -/
theorem upper_block : ∀ q < 64, ∀ t < 128, 128 * q + t < 8128 →
    (lit3t (128 * q + t)).toNat < (lit4t (128 * q + t)).toNat ∧ (lit4t (128 * q + t)).toNat < 128 := by
  decide +kernel

/-- The same for an entry `n`. -/
theorem upper_place {n : ℕ} (h : n < 8128) : (lit3t n).toNat < (lit4t n).toNat ∧ (lit4t n).toNat < 128 := by
  have := upper_block (n / 128) (by omega) (n % 128) (by omega)
  rw [Nat.div_add_mod] at this
  exact this h

/-- Entry `n` of the diagonal's table is `n`. -/
theorem diagonal_at : ∀ n : Fin 128, (lit2 n).toNat = n.val := by
  decide +kernel

end Cert.Proof.ReferenceIdeal
-- ==== Proof.ReferenceIdeal.Words.lean ====
/-
  The reference's lists of index pairs, read as numbers: the places of the lower triangle, of the strict upper triangle,
  and of the diagonal twice (once from a table, once counted).
-/
module

public import proofs.«01_k».proof.Proof.Columns
public import proofs.«01_k».proof.Proof.Gen.ReferenceIdeal
public import proofs.«01_k».proof.Proof.ReferenceIdeal.Lower
public import proofs.«01_k».proof.Proof.ReferenceIdeal.Upper

@[expose] public section

noncomputable section

namespace Cert.Proof.ReferenceIdeal

open Cert.ReferenceIdeal Cert.ReferenceIdeal.Gen Cert.Proof.Tri Cert.Proof.Cells
open Idealize.ShloMosaic Idealize.ShloMosaic.ValueIdx

/-- The pairs (row, column) of the lower triangle, in packed order. -/
def lowers : IVec S8256x2 32 :=
  concatenate S8256x2 1 [⟨S8256x1, broadcastInDim S8256x1 ![0] bcast_S8256_S8256x1_0 (select (constantI S8256 1 0#1) (addi (fun i => lit0 (S8256.rowMajor i)) (broadcastInDim S8256 ![] bcast_S_S8256 (constantI S_ 32 128#32))) (fun i => lit0 (S8256.rowMajor i)))⟩,
    ⟨S8256x1, broadcastInDim S8256x1 ![0] bcast_S8256_S8256x1_0 (select (constantI S8256 1 0#1) (addi (fun i => lit1 (S8256.rowMajor i)) (broadcastInDim S8256 ![] bcast_S_S8256 (constantI S_ 32 128#32))) (fun i => lit1 (S8256.rowMajor i)))⟩] concatenates_S8256x1_S8256x1_S8256x2_d1

/-- The pairs (row, column) above the diagonal. -/
def uppers : IVec S8128x2 32 :=
  concatenate S8128x2 1 [⟨S8128x1, broadcastInDim S8128x1 ![0] bcast_S8128_S8128x1_0 (select (constantI S8128 1 0#1) (addi (fun i => lit3 (S8128.rowMajor i)) (broadcastInDim S8128 ![] bcast_S_S8128 (constantI S_ 32 128#32))) (fun i => lit3 (S8128.rowMajor i)))⟩,
    ⟨S8128x1, broadcastInDim S8128x1 ![0] bcast_S8128_S8128x1_0 (select (constantI S8128 1 0#1) (addi (fun i => lit4 (S8128.rowMajor i)) (broadcastInDim S8128 ![] bcast_S_S8128 (constantI S_ 32 128#32))) (fun i => lit4 (S8128.rowMajor i)))⟩] concatenates_S8128x1_S8128x1_S8128x2_d1

/-- The diagonal's pairs, from the table. -/
def diags : IVec S128x2 32 :=
  concatenate S128x2 1 [⟨S128x1, broadcastInDim S128x1 ![0] bcast_S128_S128x1_0 (select (constantI S128 1 0#1) (addi (fun i => lit2 (S128.rowMajor i)) (broadcastInDim S128 ![] bcast_S_S128 (constantI S_ 32 128#32))) (fun i => lit2 (S128.rowMajor i)))⟩,
    ⟨S128x1, broadcastInDim S128x1 ![0] bcast_S128_S128x1_0 (select (constantI S128 1 0#1) (addi (fun i => lit2 (S128.rowMajor i)) (broadcastInDim S128 ![] bcast_S_S128 (constantI S_ 32 128#32))) (fun i => lit2 (S128.rowMajor i)))⟩] concatenates_S128x1_S128x1_S128x2_d1

/-- The diagonal's pairs, counted. -/
def counts : IVec S128x2 32 :=
  concatenate S128x2 1 [⟨S128x1, broadcastInDim S128x1 ![0] bcast_S128_S128x1_0 (select (cmpi .slt (iotaInDim S128 32 0) (broadcastInDim S128 ![] bcast_S_S128 (constantI S_ 32 0#32))) (addi (iotaInDim S128 32 0) (broadcastInDim S128 ![] bcast_S_S128 (constantI S_ 32 128#32))) (iotaInDim S128 32 0))⟩,
    ⟨S128x1, broadcastInDim S128x1 ![0] bcast_S128_S128x1_0 (select (cmpi .slt (iotaInDim S128 32 0) (broadcastInDim S128 ![] bcast_S_S128 (constantI S_ 32 0#32))) (addi (iotaInDim S128 32 0) (broadcastInDim S128 ![] bcast_S_S128 (constantI S_ 32 128#32))) (iotaInDim S128 32 0))⟩] concatenates_S128x1_S128x1_S128x2_d1

/-- A choice that never takes its first operand is its second. -/
theorem second {s : Shape} (a b : IVec s 32) (i : s.Idx) : select (constantI s 1 0#1) a b i = b i :=
  if_neg (t := a i) (show ¬(0#1 : BitVec 1) = 1 by decide)

theorem lit0_eq (k : Fin 8256) : lit0 k = lit0t k.val := by cases k; rfl
theorem lit1_eq (k : Fin 8256) : lit1 k = lit1t k.val := by cases k; rfl
theorem lit3_eq (k : Fin 8128) : lit3 k = lit3t k.val := by cases k; rfl
theorem lit4_eq (k : Fin 8128) : lit4 k = lit4t k.val := by cases k; rfl

/-- Pair `n` of the lower triangle, read as two numbers. -/
theorem lowers_fst (n : Fin 8256) : (lowers (ix2 n 0)).toInt = ((lit0t n.val).toNat : ℤ) := by
  have h := lower_place n.isLt
  refine (congrArg BitVec.toInt ((beside_fst _ _ _ _ _ n).trans ((second _ _ _).trans (lit0_eq _)))).trans ?_
  rw [Shape.rowMajor_val_one]
  exact small_toInt h.2.2

theorem lowers_snd (n : Fin 8256) : (lowers (ix2 n 1)).toInt = ((lit1t n.val).toNat : ℤ) := by
  have h := lower_place n.isLt
  refine (congrArg BitVec.toInt ((beside_snd _ _ _ _ _ n).trans ((second _ _ _).trans (lit1_eq _)))).trans ?_
  rw [Shape.rowMajor_val_one]
  exact small_toInt (w := lit1t n.val) (by omega)

/-- Pair `n` above the diagonal, read as two numbers. -/
theorem uppers_fst (n : Fin 8128) : (uppers (ix2 n 0)).toInt = ((lit3t n.val).toNat : ℤ) := by
  have h := upper_place n.isLt
  refine (congrArg BitVec.toInt ((beside_fst _ _ _ _ _ n).trans ((second _ _ _).trans (lit3_eq _)))).trans ?_
  rw [Shape.rowMajor_val_one]
  exact small_toInt (w := lit3t n.val) (by omega)

theorem uppers_snd (n : Fin 8128) : (uppers (ix2 n 1)).toInt = ((lit4t n.val).toNat : ℤ) := by
  have h := upper_place n.isLt
  refine (congrArg BitVec.toInt ((beside_snd _ _ _ _ _ n).trans ((second _ _ _).trans (lit4_eq _)))).trans ?_
  rw [Shape.rowMajor_val_one]
  exact small_toInt h.2

/-- Entry `n` of the diagonal's table is `n` also as a signed number. -/
theorem diagonal_word (k : Fin 128) : (lit2 k).toInt = (k.val : ℤ) := by
  have h := diagonal_at k
  rw [small_toInt (by have := k.isLt; omega), h]

/-- Pair `n` of the diagonal is `(n, n)`. -/
theorem diags_fst (n : Fin 128) : (diags (ix2 n 0)).toInt = (n.val : ℤ) := by
  refine (congrArg BitVec.toInt ((beside_fst _ _ _ _ _ n).trans (second _ _ _))).trans ((diagonal_word _).trans ?_)
  rw [Shape.rowMajor_val_one]

theorem diags_snd (n : Fin 128) : (diags (ix2 n 1)).toInt = (n.val : ℤ) := by
  refine (congrArg BitVec.toInt ((beside_snd _ _ _ _ _ n).trans (second _ _ _))).trans ((diagonal_word _).trans ?_)
  rw [Shape.rowMajor_val_one]

/-- A count below 128 is not negative, so it is taken as it is. -/
theorem count_word : ∀ n : Fin 128,
    (if IntOp.cmpi .slt (BitVec.ofNat 32 n.val) 0#32 = 1#1 then IntOp.addi (BitVec.ofNat 32 n.val) 128#32 else BitVec.ofNat 32 n.val).toInt = (n.val : ℤ) := by
  decide +kernel

theorem counts_fst (n : Fin 128) : (counts (ix2 n 0)).toInt = (n.val : ℤ) :=
  (congrArg BitVec.toInt (beside_fst _ _ _ _ _ n)).trans (count_word n)

theorem counts_snd (n : Fin 128) : (counts (ix2 n 1)).toInt = (n.val : ℤ) :=
  (congrArg BitVec.toInt (beside_snd _ _ _ _ _ n)).trans (count_word n)

end Cert.Proof.ReferenceIdeal

end
-- ==== Proof.ReferenceIdeal.Value.lean ====
/-
  What the reference computes, entry by entry: the packed vector set into the lower triangle of a zero square, its
  diagonal replaced by the absolute value and the constant added, the rest of the square zero.
-/
module

public import proofs.«01_k».proof.Proof.ReferenceIdeal.Words
public import proofs.«01_k».proof.Proof.Grid
public import proofs.«01_k».proof.Proof.Gen.ReferenceIdeal.Run
public import Idealize.ShloMosaic.PureOps.Ideal.Laws

@[expose] public section

noncomputable section

namespace Cert.Proof.ReferenceIdeal

open Cert.ReferenceIdeal Cert.ReferenceIdeal.Gen Cert.Proof.Tri Cert.Proof.Cells
open Idealize.ShloMosaic Idealize.ShloMosaic.ValueIdx

/-- The constant added on the diagonal. -/
def eps : Ideal .f32 := Scalar.ofBits .f32 0x322BCC77#32

/-- The zero the reference writes is the number zero. -/
theorem zero_word : (Scalar.ofBits .f32 0x00000000#32 : Ideal .f32) = (0 : EReal) := Ideal.ofBits_zero_f32

/-- The zero squares. -/
def zeros : FVec Ideal S1024x128x128 .f32 := broadcastInDim S1024x128x128 ![] bcast_S_S1024x128x128 (constant S_ .f32 0x00000000#32)

theorem zeros_at (i : S1024x128x128.Idx) : zeros i = (0 : EReal) := zero_word

variable (x : FVec Ideal S1024x8256 .f32)

/-- The packed vectors set into the lower triangles. -/
def low : FVec Ideal S1024x128x128 .f32 :=
  Host.scatter scatter_S1024x128x128_S8256x2_S1024x8256_0_12_12_1 (fun _ b => b) zeros lowers x

/-- On and below the diagonal the square holds the packed entry, -/
theorem low_at (b : Fin 1024) {r c : Fin 128} (h : c.val ≤ r.val) : low x (ix3 b r c) = at2 (M := 1024) (N := 8256) x b.val (tri r.val + c.val) := by
  have hb := tri_bound r.isLt
  have hn : tri r.val + c.val < 8256 := by omega
  obtain ⟨e0, e1⟩ := lower_at r.isLt h
  refine Eq.trans (put_hit _ lowers zeros x (b := b) (r := r) (c := c) ⟨tri r.val + c.val, hn⟩ ((lowers_fst _).trans (congrArg Nat.cast e0))
    ((lowers_snd _).trans (congrArg Nat.cast e1)) fun n' h0 h1 => Fin.ext ?_) (at2_eq (M := 1024) (N := 8256) x (ix2 b ⟨tri r.val + c.val, hn⟩) rfl rfl).symm
  rw [lowers_fst] at h0
  rw [lowers_snd] at h1
  have h2 := (lower_place n'.isLt).1
  rw [Nat.cast_inj.mp h0, Nat.cast_inj.mp h1] at h2
  exact h2.symm

/-- and above it zero. -/
theorem low_above (b : Fin 1024) {r c : Fin 128} (h : r.val < c.val) : low x (ix3 b r c) = (0 : EReal) := by
  refine (put_miss _ lowers zeros x (b := b) (r := r) (c := c) fun n h0 h1 => ?_).trans (zeros_at _)
  rw [lowers_fst] at h0
  rw [lowers_snd] at h1
  have h2 := (lower_place n.isLt).2.1
  rw [Nat.cast_inj.mp h0, Nat.cast_inj.mp h1] at h2
  omega

/-- The squares' diagonals. -/
def diag : FVec Ideal S1024x128 .f32 := Host.gather gather_S1024x128x128_S128x2_S1024x128_0_12_n_n_12_1_102411 (low x) counts

theorem diag_at (b : Fin 1024) (n : Fin 128) : diag x (ix2 b n) = at2 (M := 1024) (N := 8256) x b.val (tri n.val + n.val) :=
  (get_eq _ (low x) counts b n n n (counts_fst n) (counts_snd n)).trans (low_at x b le_rfl)

/-- The diagonals' absolute values set into zero squares. -/
def dabs : FVec Ideal S1024x128x128 .f32 :=
  Host.scatter scatter_S1024x128x128_S128x2_S1024x128_0_12_12_1 (fun _ b => b) zeros diags (Host.absf (diag x))

/-- The host's absolute value is the kernel's. -/
theorem host_abs (a : Ideal .f32) : FloatOps.hostAbsf (F := Ideal) a = FloatOps.absf a := rfl

theorem host_abs_at {s : Shape} (f : FVec Ideal s .f32) (i : s.Idx) : Host.absf f i = FloatOps.absf (F := Ideal) (f i) := host_abs (f i)

theorem dabs_on (b : Fin 1024) (r : Fin 128) :
    dabs x (ix3 b r r) = FloatOps.absf (F := Ideal) (at2 (M := 1024) (N := 8256) x b.val (tri r.val + r.val)) := by
  refine (put_hit _ diags zeros (Host.absf (diag x)) (b := b) (r := r) (c := r) r (diags_fst r) (diags_snd r) fun n' h0 _ => Fin.ext ?_).trans ?_
  · rw [diags_fst] at h0
    exact Nat.cast_inj.mp h0
  · rw [host_abs_at, diag_at]

theorem dabs_off (b : Fin 1024) {r c : Fin 128} (h : r ≠ c) : dabs x (ix3 b r c) = (0 : EReal) := by
  refine (put_miss _ diags zeros (Host.absf (diag x)) (b := b) (r := r) (c := c) fun n h0 h1 => ?_).trans (zeros_at _)
  rw [diags_fst] at h0
  rw [diags_snd] at h1
  exact h (Fin.ext (Nat.cast_inj.mp (h0.symm.trans h1)))

/-- The constant on the diagonal of a square, zero elsewhere. -/
def eye : FVec Ideal S1024x128x128 .f32 :=
  broadcastInDim S1024x128x128 ![0, 1, 2] bcast_S1x128x128_S1024x128x128_0_1_2 (mulf (broadcastInDim S1x128x128 ![] bcast_S_S1x128x128 (constant S_ .f32 0x322BCC77#32))
    (broadcastInDim S1x128x128 ![1, 2] bcast_S128x128_S1x128x128_1_2 (uitofp .f32 (cmpi .eq (addi (iotaInDim S128x128 32 0) (broadcastInDim S128x128 ![] bcast_S_S128x128 (constantI S_ 32 0#32))) (iotaInDim S128x128 32 1)))))

/-- The word that says whether row and column agree. -/
theorem agree_word : ∀ r c : Fin 128, (IntOp.cmpi .eq (IntOp.addi (BitVec.ofNat 32 r.val) 0#32) (BitVec.ofNat 32 c.val)).toNat = if r = c then 1 else 0 := by
  decide +kernel

theorem eye_at (b : Fin 1024) (r c : Fin 128) : eye (ix3 b r c) = if r = c then eps else (0 : EReal) := by
  have h : eye (ix3 b r c) = (eps : EReal) * (((IntOp.cmpi .eq (IntOp.addi (BitVec.ofNat 32 r.val) 0#32) (BitVec.ofNat 32 c.val)).toNat : ℝ) : EReal) := rfl
  rw [h, agree_word]
  by_cases e : r = c
  · rw [if_pos e, if_pos e, Nat.cast_one, EReal.coe_one, mul_one]
  · rw [if_neg e, if_neg e, Nat.cast_zero, EReal.coe_zero, mul_zero]

/-- The packed entries strictly below the diagonal, zero elsewhere. -/
def below : FVec Ideal S1024x128x128 .f32 :=
  select (broadcastInDim S1024x128x128 ![1, 2] bcast_S128x128_S1024x128x128_1_2 (cmpi .sge (addi (iotaInDim S128x128 32 0) (broadcastInDim S128x128 ![] bcast_S_S128x128 (constantI S_ 32 4294967295#32))) (iotaInDim S128x128 32 1)))
    (low x) zeros

/-- The word that says whether the column is before the row. -/
theorem before_word : ∀ r c : Fin 128, IntOp.cmpi .sge (IntOp.addi (BitVec.ofNat 32 r.val) 4294967295#32) (BitVec.ofNat 32 c.val) = if c < r then 1#1 else 0#1 := by
  decide +kernel

theorem below_at (b : Fin 1024) (r c : Fin 128) : below x (ix3 b r c) = if c < r then low x (ix3 b r c) else (0 : EReal) := by
  have h : below x (ix3 b r c) = Scalar.select (IntOp.cmpi .sge (IntOp.addi (BitVec.ofNat 32 r.val) 4294967295#32) (BitVec.ofNat 32 c.val)) (low x (ix3 b r c)) (zeros (ix3 b r c)) := rfl
  rw [h, before_word, zeros_at]
  by_cases e : c < r
  · rw [if_pos e, if_pos e]; exact if_pos rfl
  · rw [if_neg e, if_neg e]; exact if_neg (by decide)

/-- The three summed. -/
def summed : FVec Ideal S1024x128x128 .f32 := addf (addf (dabs x) eye) (below x)

/-- The reference's result. -/
def value : FVec Ideal S1024x128x128 .f32 :=
  Host.scatter scatter_S1024x128x128_S8128x2_S1024x8128_0_12_12_1 (fun _ b => b) (summed x) uppers (broadcastInDim S1024x8128 ![] bcast_S_S1024x8128 (constant S_ .f32 0x00000000#32))

theorem summed_at (b : Fin 1024) (r c : Fin 128) : summed x (ix3 b r c) = ((dabs x (ix3 b r c) : EReal) + eye (ix3 b r c)) + below x (ix3 b r c) := rfl

/-- The result's entry at row `r` and column `c` of square `b`. -/
theorem value_at (b : Fin 1024) (r c : Fin 128) :
    value x (ix3 b r c) = entry (fun a => FloatOps.addf (F := Ideal) (FloatOps.absf a) (Scalar.ofBits .f32 0x322BCC77#32)) (Scalar.ofBits .f32 0x00000000#32)
      (at2 (M := 1024) (N := 8256) x b.val) r.val c.val := by
  by_cases h : r.val < c.val
  · rw [entry_upper _ _ _ h]
    refine put_same _ uppers (summed x) _ (b := b) (r := r) (c := c) ?_ fun _ => rfl
    rw [summed_at, dabs_off x b (fun e => by rw [e] at h; omega), eye_at, if_neg (fun e => by rw [e] at h; omega), below_at,
      if_neg (fun e => by have : c.val < r.val := e; omega), zero_word, add_zero, add_zero]
  · refine (put_miss _ uppers (summed x) _ (b := b) (r := r) (c := c) fun n h0 h1 => ?_).trans ?_
    · rw [uppers_fst] at h0
      rw [uppers_snd] at h1
      have h2 := (upper_place n.isLt).1
      rw [Nat.cast_inj.mp h0, Nat.cast_inj.mp h1] at h2
      exact h h2
    · rw [summed_at, eye_at, below_at]
      by_cases e : r = c
      · subst e
        rw [dabs_on, if_pos rfl, if_neg (lt_irrefl _), add_zero, entry, if_neg (lt_irrefl _), if_pos rfl]
        rfl
      · have hlt : c.val < r.val := by
          have : r.val ≠ c.val := fun h' => e (Fin.ext h')
          omega
        rw [dabs_off x b e, if_neg e, if_pos (show c < r from hlt), zero_add, zero_add, entry, if_pos hlt]
        exact low_at x b hlt.le

/-- The printed program's result is that value of its argument. -/
theorem res_eq (m : (ℓ : Loc nD τ sig) → Buf (Elt Ideal) ℓ) (c : Dev nD) :
    Cert.ReferenceIdeal.Value.res_out0 m c = value (m ((c.tc : Thread nD τ).loc main_arg0)) := by
  unfold Cert.ReferenceIdeal.Value.res_out0 Cert.ReferenceIdeal.Value.res_main_v47
  rfl

end Cert.Proof.ReferenceIdeal

end
-- ==== Proof.Equal.lean ====
/-
  The kernel's result and the reference's, entry by entry the same extended real.
-/
module

public import proofs.«01_k».proof.Proof.KernelIdeal.Launch
public import proofs.«01_k».proof.Proof.ReferenceIdeal.Value

@[expose] public section

noncomputable section

namespace Cert.Proof

open Idealize.ShloMosaic Cert.Proof.Tri

/-- A table whose rows are reshaped to matrices of `R` rows and `C` columns: the entry at row `r` and column `c` of
    matrix `b` is the table's entry at row `b` and column `C r + c`. -/
theorem matrix_apply {α : Type} {B R C N : ℕ} (y : (⟨2, ![B, N]⟩ : Shape).Idx → α) (h : (⟨2, ![B, N]⟩ : Shape).ShapeCasts ⟨3, ![B, R, C]⟩)
    (hN : N = R * C) (b : Fin B) (r : Fin R) (c : Fin C) (hn : C * r.val + c.val < N) :
    shapeCast ⟨3, ![B, R, C]⟩ y h (ValueIdx.ix3 b r c) = y (ValueIdx.ix2 b ⟨C * r.val + c.val, hn⟩) := by
  refine congrArg y (Shape.reshapeEquiv_eq_of_rowMajor _ ?_)
  rw [Shape.rowMajor_val_two, Shape.rowMajor_val_three]
  show b.val * N + (C * r.val + c.val) = (b.val * R + r.val) * C + c.val
  rw [hN]
  ring

/-- The kernel's table of squares at row `b` and column `128 r + c`. -/
theorem squares_at (x : FVec Ideal Cert.KernelIdeal.S1024x8256 .f32) (b : Fin 1024) (r c : Fin 128) (hn : 128 * r.val + c.val < 16384) :
    KernelIdeal.squares (F := Ideal) x (ValueIdx.ix2 b ⟨128 * r.val + c.val, hn⟩)
      = entry KernelIdeal.onDiag KernelIdeal.zed (at2 (M := 1024) (N := 8256) x b.val) r.val c.val := by
  have hc := c.isLt
  have e : KernelIdeal.squares (F := Ideal) x (ValueIdx.ix2 b ⟨128 * r.val + c.val, hn⟩)
      = entry KernelIdeal.onDiag KernelIdeal.zed (at2 (M := 1024) (N := 8256) x b.val) ((128 * r.val + c.val) / 128) ((128 * r.val + c.val) % 128) := rfl
  rw [e, show (128 * r.val + c.val) / 128 = r.val by omega, show (128 * r.val + c.val) % 128 = c.val by omega]

/-- The two results of one packed table. -/
theorem results_equal (x : FVec Ideal Cert.KernelIdeal.S1024x8256 .f32) (h : Cert.KernelIdeal.S1024x16384.ShapeCasts Cert.KernelIdeal.S1024x128x128)
    (i : Cert.KernelIdeal.S1024x128x128.Idx) :
    ReferenceIdeal.value x i = shapeCast Cert.KernelIdeal.S1024x128x128 (KernelIdeal.squares (F := Ideal) x) h i := by
  rw [ValueIdx.eq_ix3 i]
  have hr : (i 1).val < 128 := (i 1).isLt
  have hc : (i 2).val < 128 := (i 2).isLt
  refine (ReferenceIdeal.value_at x (i 0) (i 1) (i 2)).trans ?_
  refine Eq.trans ?_ (matrix_apply (KernelIdeal.squares (F := Ideal) x) h (by norm_num) (i 0) (i 1) (i 2) (by omega)).symm
  exact (squares_at x (i 0) (i 1) (i 2) (by omega)).symm

end Cert.Proof

end
-- ==== Proof.lean ====
/-
  The five claims: each program runs to its end with its argument unchanged and its semaphores at rest, the idealized
  kernel is the kernel's own text, and the idealized kernel's result is the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Equal
public import Idealize.ShloMosaic.Adequacy
public import Idealize.ShloMosaic.Init

@[expose] public section

noncomputable section

namespace Cert.Proof

open Idealize.ShloMosaic Idealize.SL.Sem

/-- The kernel at the machine's floats: every run ends with the argument unchanged and the semaphores at rest. -/
theorem frame_kernel : Cert.quiescent_Kernel (hKernel := Cert.Kernel.Gen.facts) := fun m ρ _ =>
  (θ_run Cert.Kernel.defs _ _).mono (fun _ h => ⟨fun c => (h.1 c).1, h.2⟩) (Kernel.run_main (F := Bits) m ρ)

/-- The same of the kernel at the extended reals, -/
theorem frame_ideal : Cert.quiescent_KernelIdeal (hKernelIdeal := Cert.KernelIdeal.Gen.facts) := fun m ρ _ =>
  (θ_run Cert.KernelIdeal.defs _ _).mono (fun _ h => ⟨fun c => (h.1 c).1, h.2⟩) (KernelIdeal.run_main (F := Ideal) m ρ)

/-- and of the reference, which has no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From equal arguments the kernel and the reference end with equal results: the squares of the packed rows. -/
theorem equal : Cert.algebraic_KernelIdeal_ReferenceIdeal (hKernelIdeal := Cert.KernelIdeal.Gen.facts) (hReferenceIdeal := Cert.ReferenceIdeal.Gen.facts) :=
  fun m ρ m' ρ' _ hargs => ⟨KernelIdeal.result (F := Ideal) m,
    (θ_run Cert.KernelIdeal.defs _ _).mono (fun _ h c => ⟨(h.1 c).2, (h.1 c).1⟩) (KernelIdeal.run_main (F := Ideal) m ρ),
    (θ_run Cert.ReferenceIdeal.defs _ _).mono (fun _ h c => ⟨(h c).1.trans ((ReferenceIdeal.res_eq m' c).trans
        ((congrArg ReferenceIdeal.value (hargs c)).trans (funext fun i => results_equal _ _ i))), (h c).2⟩)
      (Cert.ReferenceIdeal.Value.run (F := Ideal) m' ρ')⟩

theorem claim : Cert.Claim :=
  ⟨Cert.Kernel.Gen.facts, Cert.KernelIdeal.Gen.facts, Cert.ReferenceIdeal.Gen.facts, frame_kernel, frame_ideal, frame_reference, trivial, equal⟩

end Cert.Proof

end
